-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x2048x1536 : Shape := ⟨3, ![8, 2048, 1536]⟩
abbrev S24x24 : Shape := ⟨2, ![24, 24]⟩
abbrev S576x768 : Shape := ⟨2, ![576, 768]⟩
abbrev S576x12 : Shape := ⟨2, ![576, 12]⟩
abbrev S576 : Shape := ⟨1, ![576]⟩
abbrev S_ : Shape := ⟨0, ![]⟩

class Facts : Prop where
  bcast_S_S576x12 : S_.BroadcastsInDim S576x12 (![] : Fin 0 → Fin S576x12.rank)

variable [Facts]

def fn {F : FTy → Type} [FloatOps F] (main_arg0 : FVec F S8x2048x1536 .bf16) (main_arg1 : FVec F S24x24 .f32) (main_arg2 : IVec S576x768 8) (main_arg3 : IVec S576x12 8) (main_arg4 : FVec F S576 .f32) : IVec S576x12 1 :=
  let main_c : IVec S_ 8 := constantI S_ 8 126#8
  let main_v0 : IVec S576x12 8 := broadcastInDim S576x12 ![] bcast_S_S576x12 main_c
  let main_v1 : IVec S576x12 1 := cmpi .ule main_arg3 main_v0
  main_v1
-- ==== Kernel.lean ====
abbrev S8x2048x1536 : Shape := ⟨3, ![8, 2048, 1536]⟩
abbrev S24x24 : Shape := ⟨2, ![24, 24]⟩
abbrev S576x768 : Shape := ⟨2, ![576, 768]⟩
abbrev S576x12 : Shape := ⟨2, ![576, 12]⟩
abbrev S576 : Shape := ⟨1, ![576]⟩
abbrev S12x576 : Shape := ⟨2, ![12, 576]⟩
abbrev S1x576 : Shape := ⟨2, ![1, 576]⟩
abbrev S8x576x2048 : Shape := ⟨3, ![8, 576, 2048]⟩
abbrev S8x2048 : Shape := ⟨2, ![8, 2048]⟩
abbrev S1x512x1536 : Shape := ⟨3, ![1, 512, 1536]⟩
abbrev S1x576x512 : Shape := ⟨3, ![1, 576, 512]⟩
abbrev S2x256x256 : Shape := ⟨3, ![2, 256, 256]⟩
abbrev S576x1536 : Shape := ⟨2, ![576, 1536]⟩
abbrev S576x128 : Shape := ⟨2, ![576, 128]⟩
abbrev S256x24 : Shape := ⟨2, ![256, 24]⟩
abbrev S24x256 : Shape := ⟨2, ![24, 256]⟩
abbrev S256x256 : Shape := ⟨2, ![256, 256]⟩
abbrev S1x256x256 : Shape := ⟨3, ![1, 256, 256]⟩
abbrev S576x1 : Shape := ⟨2, ![576, 1]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x1536 : Shape := ⟨2, ![256, 1536]⟩
abbrev S128x1 : Shape := ⟨2, ![128, 1]⟩
abbrev S128x128 : Shape := ⟨2, ![128, 128]⟩
abbrev S1x128 : Shape := ⟨2, ![1, 128]⟩
abbrev S1x256 : Shape := ⟨2, ![1, 256]⟩
abbrev S8x256 : Shape := ⟨2, ![8, 256]⟩
abbrev S576x256 : Shape := ⟨2, ![576, 256]⟩
abbrev S1x576x128 : Shape := ⟨3, ![1, 576, 128]⟩
abbrev S8x2048x576 : Shape := ⟨3, ![8, 2048, 576]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x1536, .bf16⟩
  | .hbm, ⟨1, _⟩ => ⟨S24x24, .f32⟩
  | .hbm, ⟨2, _⟩ => ⟨S576x768, .i8⟩
  | .hbm, ⟨3, _⟩ => ⟨S576x12, .i8⟩
  | .hbm, ⟨4, _⟩ => ⟨S576, .f32⟩
  | .hbm, ⟨5, _⟩ => ⟨S12x576, .i8⟩
  | .hbm, ⟨6, _⟩ => ⟨S1x576, .f32⟩
  | .hbm, ⟨7, _⟩ => ⟨S8x576x2048, .bf16⟩
  | .hbm, ⟨8, _⟩ => ⟨S8x2048x1536, .i8⟩
  | .hbm, ⟨9, _⟩ => ⟨S8x2048, .f32⟩
  | .hbm, ⟨10, _⟩ => ⟨S8x2048x576, .bf16⟩
  | .local _ .vmem, ⟨0, _⟩ => ⟨S1x512x1536, .bf16⟩
  | .local _ .vmem, ⟨1, _⟩ => ⟨S1x512x1536, .bf16⟩
  | .local _ .vmem, ⟨2, _⟩ => ⟨S24x24, .f32⟩
  | .local _ .vmem, ⟨3, _⟩ => ⟨S576x768, .i8⟩
  | .local _ .vmem, ⟨4, _⟩ => ⟨S12x576, .i8⟩
  | .local _ .vmem, ⟨5, _⟩ => ⟨S1x576, .f32⟩
  | .local _ .vmem, ⟨6, _⟩ => ⟨S1x576x512, .bf16⟩
  | .local _ .vmem, ⟨7, _⟩ => ⟨S1x576x512, .bf16⟩
  | .local _ .vmem, ⟨8, _⟩ => ⟨S1x512x1536, .i8⟩
  | .local _ .vmem, ⟨9, _⟩ => ⟨S1x512x1536, .i8⟩
  | .local _ .vmem, ⟨10, _⟩ => ⟨S8x2048, .f32⟩
  | .local _ .vmem, ⟨11, _⟩ => ⟨S2x256x256, .bf16⟩
  | .local _ .vmem, ⟨12, _⟩ => ⟨S576x1536, .fp8e4m3⟩
  | .local _ .vmem, ⟨13, _⟩ => ⟨S576x128, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v327 : BitVec 32 := Scalar.muli arg1 c512_i32
  let c0_i32_96 : BitVec 32 := 0#32
  let v328 : BitVec 32 := Scalar.addi v327 c0_i32_96
  v328
def k0_off1 (i : grid0.Coords) (c0_i32_96 : BitVec 32) : Fin 2 → Nat :=
  let c0_97 : Index := 0#32
  let arg1 : BitVec 32 := BitVec.ofNat 32 (i 1).val
  let c512_i32 : BitVec 32 := 512#32
  let v327 : BitVec 32 := Scalar.muli arg1 c512_i32
  let v328 : BitVec 32 := Scalar.addi v327 c0_i32_96
  let v329 : BitVec 32 := v328
  let v333 : Index := Scalar.indexCast v329
  ![0, v333.toNat]
def k0_mult2 (i : grid0.Coords) : BitVec 32 :=
  let arg1 : BitVec 32 := BitVec.ofNat 32 (i 1).val
  let c512_i32_214 : BitVec 32 := 512#32
  let v678 : BitVec 32 := Scalar.muli arg1 c512_i32_214
  let c256_i32 : BitVec 32 := 256#32
  let v679 : BitVec 32 := Scalar.addi v678 c256_i32
  v679
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S24x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S576x768 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x576 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x576x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8x2048x1536 : Shape := ⟨3, ![8, 2048, 1536]⟩
abbrev S24x24 : Shape := ⟨2, ![24, 24]⟩
abbrev S576x768 : Shape := ⟨2, ![576, 768]⟩
abbrev S576x12 : Shape := ⟨2, ![576, 12]⟩
abbrev S576 : Shape := ⟨1, ![576]⟩
abbrev S8x2048x64x24 : Shape := ⟨4, ![8, 2048, 64, 24]⟩
abbrev S64x64 : Shape := ⟨2, ![64, 64]⟩
abbrev S_ : Shape := ⟨0, ![]⟩
abbrev S8x2048x24x64 : Shape := ⟨4, ![8, 2048, 24, 64]⟩
abbrev S8x2048 : Shape := ⟨2, ![8, 2048]⟩
abbrev S8x2048x1 : Shape := ⟨3, ![8, 2048, 1]⟩
abbrev S8x2048x768 : Shape := ⟨3, ![8, 2048, 768]⟩
abbrev S576x6 : Shape := ⟨2, ![576, 6]⟩
abbrev S576x6x128 : Shape := ⟨3, ![576, 6, 128]⟩
abbrev S576x6x1 : Shape := ⟨3, ![576, 6, 1]⟩
abbrev S8x2048x576 : Shape := ⟨3, ![8, 2048, 576]⟩
abbrev S1x1x576 : Shape := ⟨3, ![1, 1, 576]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S24x24, .f32⟩
  | .hbm, ⟨2, _⟩ => ⟨S576x768, .i8⟩
  | .hbm, ⟨3, _⟩ => ⟨S576x12, .i8⟩
  | .hbm, ⟨4, _⟩ => ⟨S576, .f32⟩
  | .hbm, ⟨5, _⟩ => ⟨S8x2048x1536, .f32⟩
  | .hbm, ⟨6, _⟩ => ⟨S8x2048x64x24, .f32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .f32⟩
  | .hbm, ⟨21, _⟩ => ⟨S8x2048x24x64, .f32⟩
  | .hbm, ⟨22, _⟩ => ⟨S8x2048x64x24, .f32⟩
  | .hbm, ⟨23, _⟩ => ⟨S8x2048x64x24, .f32⟩
  | .hbm, ⟨24, _⟩ => ⟨S_, .f32⟩
  | .hbm, ⟨25, _⟩ => ⟨S8x2048x64x24, .f32⟩
  | .hbm, ⟨26, _⟩ => ⟨S8x2048x64x24, .f32⟩
  | .hbm, ⟨27, _⟩ => ⟨S8x2048x1536, .f32⟩
  | .hbm, ⟨28, _⟩ => ⟨S8x2048x1536, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .i1⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x1536, .f32⟩
  | .hbm, ⟨42, _⟩ => ⟨S8x2048x1536, .f32⟩
  | .hbm, ⟨43, _⟩ => ⟨S8x2048x1536, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x2048x1536, .f32⟩
  | .hbm, ⟨48, _⟩ => ⟨S8x2048x1536, .f32⟩
  | .hbm, ⟨49, _⟩ => ⟨S_, .f32⟩
  | .hbm, ⟨50, _⟩ => ⟨S8x2048x1536, .f32⟩
  | .hbm, ⟨51, _⟩ => ⟨S8x2048x1536, .f32⟩
  | .hbm, ⟨52, _⟩ => ⟨S8x2048x1536, .i32⟩
  | .hbm, ⟨53, _⟩ => ⟨S8x2048x1536, .i8⟩
  | .hbm, ⟨54, _⟩ => ⟨S8x2048x1536, .i32⟩
  | .hbm, ⟨55, _⟩ => ⟨S8x2048x1536, .bf16⟩
  | .hbm, ⟨56, _⟩ => ⟨S8x2048x768, .bf16⟩
  | .hbm, ⟨57, _⟩ => ⟨S8x2048x768, .bf16⟩
  | .hbm, ⟨58, _⟩ => ⟨S576x768, .i32⟩
  | .hbm, ⟨59, _⟩ => ⟨S_, .i32⟩
  | .hbm, ⟨60, _⟩ => ⟨S576x768, .i32⟩
  | .hbm, ⟨61, _⟩ => ⟨S576x768, .i32⟩
  | .hbm, ⟨62, _⟩ => ⟨S_, .i32⟩
  | .hbm, ⟨63, _⟩ => ⟨S576x768, .i32⟩
  | .hbm, ⟨64, _⟩ => ⟨S576x768, .i1⟩
  | .hbm, ⟨65, _⟩ => ⟨S_, .i32⟩
  | .hbm, ⟨66, _⟩ => ⟨S576x768, .i32⟩
  | .hbm, ⟨67, _⟩ => ⟨S576x768, .i32⟩
  | .hbm, ⟨68, _⟩ => ⟨S576x768, .i32⟩
  | .hbm, ⟨69, _⟩ => ⟨S_, .i32⟩
  | .hbm, ⟨70, _⟩ => ⟨S576x768, .i32⟩
  | .hbm, ⟨71, _⟩ => ⟨S576x768, .i32⟩
  | .hbm, ⟨72, _⟩ => ⟨S_, .i32⟩
  | .hbm, ⟨73, _⟩ => ⟨S576x768, .i32⟩
  | .hbm, ⟨74, _⟩ => ⟨S576x768, .i32⟩
  | .hbm, ⟨75, _⟩ => ⟨S_, .i32⟩
  | .hbm, ⟨76, _⟩ => ⟨S576x768, .i32⟩
  | .hbm, ⟨77, _⟩ => ⟨S576x768, .i1⟩
  | .hbm, ⟨78, _⟩ => ⟨S_, .i32⟩
  | .hbm, ⟨79, _⟩ => ⟨S576x768, .i32⟩
  | .hbm, ⟨80, _⟩ => ⟨S576x768, .i32⟩
  | .hbm, ⟨81, _⟩ => ⟨S576x768, .i32⟩
  | .hbm, ⟨82, _⟩ => ⟨S576x12, .i32⟩
  | .hbm, ⟨83, _⟩ => ⟨S576x6, .i32⟩
  | .hbm, ⟨84, _⟩ => ⟨S576x6, .f32⟩
  | .hbm, ⟨85, _⟩ => ⟨S576x6, .f32⟩
  | .hbm, ⟨86, _⟩ => ⟨S_, .f32⟩
  | .hbm, ⟨87, _⟩ => ⟨S576x6, .f32⟩
  | .hbm, ⟨88, _⟩ => ⟨S576x6, .f32⟩
  | .hbm, ⟨89, _⟩ => ⟨S576x6, .bf16⟩
  | .hbm, ⟨90, _⟩ => ⟨S576x768, .bf16⟩
  | .hbm, ⟨91, _⟩ => ⟨S576x6x128, .bf16⟩
  | .hbm, ⟨92, _⟩ => ⟨S576x6x1, .bf16⟩
  | .hbm, ⟨93, _⟩ => ⟨S576x6x128, .bf16⟩
  | .hbm, ⟨94, _⟩ => ⟨S576x6x128, .bf16⟩
  | .hbm, ⟨95, _⟩ => ⟨S576x768, .bf16⟩
  | .hbm, ⟨96, _⟩ => ⟨S576x6, .i32⟩
  | .hbm, ⟨97, _⟩ => ⟨S576x6, .f32⟩
  | .hbm, ⟨98, _⟩ => ⟨S576x6, .f32⟩
  | .hbm, ⟨99, _⟩ => ⟨S_, .f32⟩
  | .hbm, ⟨100, _⟩ => ⟨S576x6, .f32⟩
  | .hbm, ⟨101, _⟩ => ⟨S576x6, .f32⟩
  | .hbm, ⟨102, _⟩ => ⟨S576x6, .bf16⟩
  | .hbm, ⟨103, _⟩ => ⟨S576x768, .bf16⟩
  | .hbm, ⟨104, _⟩ => ⟨S576x6x128, .bf16⟩
  | .hbm, ⟨105, _⟩ => ⟨S576x6x1, .bf16⟩
  | .hbm, ⟨106, _⟩ => ⟨S576x6x128, .bf16⟩
  | .hbm, ⟨107, _⟩ => ⟨S576x6x128, .bf16⟩
  | .hbm, ⟨108, _⟩ => ⟨S576x768, .bf16⟩
  | .hbm, ⟨109, _⟩ => ⟨S8x2048x576, .f32⟩
  | .hbm, ⟨110, _⟩ => ⟨S8x2048x576, .f32⟩
  | .hbm, ⟨111, _⟩ => ⟨S8x2048x576, .f32⟩
  | .hbm, ⟨112, _⟩ => ⟨S8x2048x1, .f32⟩
  | .hbm, ⟨113, _⟩ => ⟨S8x2048x576, .f32⟩
  | .hbm, ⟨114, _⟩ => ⟨S8x2048x576, .f32⟩
  | .hbm, ⟨115, _⟩ => ⟨S1x1x576, .f32⟩
  | .hbm, ⟨116, _⟩ => ⟨S8x2048x576, .f32⟩
  | .hbm, ⟨117, _⟩ => ⟨S8x2048x576, .f32⟩
  | .hbm, ⟨118, _⟩ => ⟨S8x2048x576, .bf16⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_cst_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Proof.Forget.Runs.lean ====
/- What the two runs of the body share, for `proofs.«01_k».proof.KernelIdeal` with its three outputs forgotten: the branch condition
   over the grid points, the staging and scratch memrefs, and the frame claim's post from a forgetting run. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/
/-- The buffers the lines after the region WRITE, as references: results computed from contents the run does not name
    (an operand the body wrote by its own DMA, or a forgotten output), so nothing is stated of them either. -/
def T0 : Finset (Ref sig .tc) := {main_v3}
/-- The operations after the call write no argument and no window. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S576x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x576 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x576 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x576x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1536 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x256x256 .bf16 := Memref.whole cc0_scratch0
abbrev scM0_1 : Memref sig .tc .vmem S576x1536 .fp8e4m3 := Memref.whole cc0_scratch1
abbrev scM0_2 : Memref sig .tc .vmem S576x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Forget.RunA.lean ====
/- The whole-body run of the idealized kernel at the first grid point, the outputs forgotten. -/
module

public import proofs.«01_k».proof.Proof.Forget.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down i arg2 harg2 arg3 harg3 arg4 harg4 arg5 harg5 arg6 harg6 arg7 harg7 arg8 harg8 arg9 harg9 arg10 harg10 arg11 harg11 arg12 harg12) K := by
    intro E K
    simp only [cc0_quarot_down_eq_skeleton]; unfold cc0_quarot_down_skel
    simp only [k0_part9_eq_skeleton, k0_part8_eq_skeleton, k0_part1_eq_skeleton, k0_part2_eq_skeleton, k0_part3_eq_skeleton, k0_part4_eq_skeleton, k0_part5_eq_skeleton, k0_part6_eq_skeleton, k0_part7_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Forget.RunB.lean ====
/- The whole-body run of the idealized kernel at every later grid point, the outputs forgotten. -/
module

public import proofs.«01_k».proof.Proof.Forget.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 31: 31 of 32): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down i arg2 harg2 arg3 harg3 arg4 harg4 arg5 harg5 arg6 harg6 arg7 harg7 arg8 harg8 arg9 harg9 arg10 harg10 arg11 harg11 arg12 harg12) K := by
    intro E K
    simp only [cc0_quarot_down_eq_skeleton]; unfold cc0_quarot_down_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Gen

end
-- ==== Proof.Forget.Frame.lean ====
/- The frame of the idealized kernel: every execution ends, the arguments keep their contents and every semaphore counter is zero.
   The outputs are forgotten, so nothing is asked of the arguments. -/
module

public import proofs.«01_k».proof.Proof.Forget.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (datsF m 0 c).A w = V m c (Pipeline.arrRef spec0 w) := by
  dsimp only [datsF]

/-- What the body leaves, window by window (the proof data's `match` reduced by `dsimp`). -/
theorem after0_0 (c : Dev nD) (t : Fin cfg0.N) : (datsF m 0 c).after 0 t = iblk m c 0 t := by dsimp only [datsF]
/-- An input window keeps its block. -/
theorem after0_1 (c : Dev nD) (t : Fin cfg0.N) : (datsF m 0 c).after 1 t = iblk m c 1 t := by dsimp only [datsF]
/-- An input window keeps its block. -/
theorem after0_2 (c : Dev nD) (t : Fin cfg0.N) : (datsF m 0 c).after 2 t = iblk m c 2 t := by dsimp only [datsF]
/-- An input window keeps its block. -/
theorem after0_3 (c : Dev nD) (t : Fin cfg0.N) : (datsF m 0 c).after 3 t = iblk m c 3 t := by dsimp only [datsF]
/-- An input window keeps its block. -/
theorem after0_4 (c : Dev nD) (t : Fin cfg0.N) : (datsF m 0 c).after 4 t = iblk m c 4 t := by dsimp only [datsF]

/-- Each input's current staging buffer holds its block at every point, fetched there or not (`beforeK_W_of`). -/
theorem before0_0 (c : Dev nD) (t : Fin cfg0.N) (d) : (datsF m 0 c).before 0 t d = iblk m c 0 t :=
  before0_0_of m (datsF m 0 c) (A_eq m c 0) (after0_0 m c) t d
/-- An input window starts a step with its block. -/
theorem before0_1 (c : Dev nD) (t : Fin cfg0.N) (d) : (datsF m 0 c).before 1 t d = iblk m c 1 t :=
  before0_1_of m (datsF m 0 c) (A_eq m c 1) (after0_1 m c) t d
/-- An input window starts a step with its block. -/
theorem before0_2 (c : Dev nD) (t : Fin cfg0.N) (d) : (datsF m 0 c).before 2 t d = iblk m c 2 t :=
  before0_2_of m (datsF m 0 c) (A_eq m c 2) (after0_2 m c) t d
/-- An input window starts a step with its block. -/
theorem before0_3 (c : Dev nD) (t : Fin cfg0.N) (d) : (datsF m 0 c).before 3 t d = iblk m c 3 t :=
  before0_3_of m (datsF m 0 c) (A_eq m c 3) (after0_3 m c) t d
/-- An input window starts a step with its block. -/
theorem before0_4 (c : Dev nD) (t : Fin cfg0.N) (d) : (datsF m 0 c).before 4 t d = iblk m c 4 t :=
  before0_4_of m (datsF m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((datsF m 0 c).Φ t.succ ∗ (datsF m 0 c).owesAt () t.succ
    ∗ owns (c : Thread nD τ) (ms0_0 t) fullShare ((datsF m 0 c).after 0 t)
    ∗ owns (c : Thread nD τ) (ms0_1 t) fullShare ((datsF m 0 c).after 1 t)
    ∗ owns (c : Thread nD τ) (ms0_2 t) fullShare ((datsF m 0 c).after 2 t)
    ∗ owns (c : Thread nD τ) (ms0_3 t) fullShare ((datsF m 0 c).after 3 t)
    ∗ owns (c : Thread nD τ) (ms0_4 t) fullShare ((datsF m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (datsF m 0 c).Φ t.succ = (datsF m 0 c).Φ t.castSucc from rfl,
    show (datsF m 0 c).owesAt () t.succ = (datsF m 0 c).owesAt () t.castSucc from rfl,
    after0_0, after0_1, after0_2, after0_3, after0_4]
  rw [show (datsF m 0 c).Φ t.castSucc = Pipeline.ΦA spec0 c from rfl, PhiA0_eq]
  have hN : t.val < 32 := lt_of_lt_of_eq t.isLt (show cfg0.N = 32 from N_0)
  by_cases h0 : t.val % 32 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (datsF (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (datsF m 0 c).toRForget forgets0) T0 (V m)) r ∧ r.2.sem = fun _ => 0) :=
  Pipeline.θ_run_frame_around_T_forget (Q' := _) cfgs (datsF m) (0 : Fin 1) launch0 defs₀ Variants.none forgets0 T0 m ρ main
    (hbody := fun c => (body_obligation m c).loose) (hshare := fun c => (datsF m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (datsF m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => (datsF m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.ForgetK.Runs.lean ====
/- What the two runs of the body share, for `proofs.«01_k».proof.Kernel` with its three outputs forgotten: the branch condition
   over the grid points, the staging and scratch memrefs, and the frame claim's post from a forgetting run. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/
/-- The buffers the lines after the region WRITE, as references: results computed from contents the run does not name
    (an operand the body wrote by its own DMA, or a forgotten output), so nothing is stated of them either. -/
def T0 : Finset (Ref sig .tc) := {main_v3}
/-- The operations after the call write no argument and no window. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S576x768 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x576 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x576 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x576x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1536 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x256x256 .bf16 := Memref.whole cc0_scratch0
abbrev scM0_1 : Memref sig .tc .vmem S576x1536 .fp8e4m3 := Memref.whole cc0_scratch1
abbrev scM0_2 : Memref sig .tc .vmem S576x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.ForgetK.RunA.lean ====
/- The whole-body run of the kernel at the first grid point, the outputs forgotten. -/
module

public import proofs.«01_k».proof.Proof.ForgetK.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down i arg2 harg2 arg3 harg3 arg4 harg4 arg5 harg5 arg6 harg6 arg7 harg7 arg8 harg8 arg9 harg9 arg10 harg10 arg11 harg11 arg12 harg12) K := by
    intro E K
    simp only [cc0_quarot_down_eq_skeleton]; unfold cc0_quarot_down_skel
    simp only [k0_part9_eq_skeleton, k0_part8_eq_skeleton, k0_part1_eq_skeleton, k0_part2_eq_skeleton, k0_part3_eq_skeleton, k0_part4_eq_skeleton, k0_part5_eq_skeleton, k0_part6_eq_skeleton, k0_part7_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.ForgetK.RunB.lean ====
/- The whole-body run of the kernel at every later grid point, the outputs forgotten. -/
module

public import proofs.«01_k».proof.Proof.ForgetK.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 31: 31 of 32): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_quarot_down i arg2 harg2 arg3 harg3 arg4 harg4 arg5 harg5 arg6 harg6 arg7 harg7 arg8 harg8 arg9 harg9 arg10 harg10 arg11 harg11 arg12 harg12) K := by
    intro E K
    simp only [cc0_quarot_down_eq_skeleton]; unfold cc0_quarot_down_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.ForgetK.Frame.lean ====
/- The frame of the kernel: every execution ends, the arguments keep their contents and every semaphore counter is zero.
   The outputs are forgotten, so nothing is asked of the arguments. -/
module

public import proofs.«01_k».proof.Proof.ForgetK.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (datsF m 0 c).A w = V m c (Pipeline.arrRef spec0 w) := by
  dsimp only [datsF]

/-- What the body leaves, window by window (the proof data's `match` reduced by `dsimp`). -/
theorem after0_0 (c : Dev nD) (t : Fin cfg0.N) : (datsF m 0 c).after 0 t = iblk m c 0 t := by dsimp only [datsF]
/-- An input window keeps its block. -/
theorem after0_1 (c : Dev nD) (t : Fin cfg0.N) : (datsF m 0 c).after 1 t = iblk m c 1 t := by dsimp only [datsF]
/-- An input window keeps its block. -/
theorem after0_2 (c : Dev nD) (t : Fin cfg0.N) : (datsF m 0 c).after 2 t = iblk m c 2 t := by dsimp only [datsF]
/-- An input window keeps its block. -/
theorem after0_3 (c : Dev nD) (t : Fin cfg0.N) : (datsF m 0 c).after 3 t = iblk m c 3 t := by dsimp only [datsF]
/-- An input window keeps its block. -/
theorem after0_4 (c : Dev nD) (t : Fin cfg0.N) : (datsF m 0 c).after 4 t = iblk m c 4 t := by dsimp only [datsF]

/-- Each input's current staging buffer holds its block at every point, fetched there or not (`beforeK_W_of`). -/
theorem before0_0 (c : Dev nD) (t : Fin cfg0.N) (d) : (datsF m 0 c).before 0 t d = iblk m c 0 t :=
  before0_0_of m (datsF m 0 c) (A_eq m c 0) (after0_0 m c) t d
/-- An input window starts a step with its block. -/
theorem before0_1 (c : Dev nD) (t : Fin cfg0.N) (d) : (datsF m 0 c).before 1 t d = iblk m c 1 t :=
  before0_1_of m (datsF m 0 c) (A_eq m c 1) (after0_1 m c) t d
/-- An input window starts a step with its block. -/
theorem before0_2 (c : Dev nD) (t : Fin cfg0.N) (d) : (datsF m 0 c).before 2 t d = iblk m c 2 t :=
  before0_2_of m (datsF m 0 c) (A_eq m c 2) (after0_2 m c) t d
/-- An input window starts a step with its block. -/
theorem before0_3 (c : Dev nD) (t : Fin cfg0.N) (d) : (datsF m 0 c).before 3 t d = iblk m c 3 t :=
  before0_3_of m (datsF m 0 c) (A_eq m c 3) (after0_3 m c) t d
/-- An input window starts a step with its block. -/
theorem before0_4 (c : Dev nD) (t : Fin cfg0.N) (d) : (datsF m 0 c).before 4 t d = iblk m c 4 t :=
  before0_4_of m (datsF m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((datsF m 0 c).Φ t.succ ∗ (datsF m 0 c).owesAt () t.succ
    ∗ owns (c : Thread nD τ) (ms0_0 t) fullShare ((datsF m 0 c).after 0 t)
    ∗ owns (c : Thread nD τ) (ms0_1 t) fullShare ((datsF m 0 c).after 1 t)
    ∗ owns (c : Thread nD τ) (ms0_2 t) fullShare ((datsF m 0 c).after 2 t)
    ∗ owns (c : Thread nD τ) (ms0_3 t) fullShare ((datsF m 0 c).after 3 t)
    ∗ owns (c : Thread nD τ) (ms0_4 t) fullShare ((datsF m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (datsF m 0 c).Φ t.succ = (datsF m 0 c).Φ t.castSucc from rfl,
    show (datsF m 0 c).owesAt () t.succ = (datsF m 0 c).owesAt () t.castSucc from rfl,
    after0_0, after0_1, after0_2, after0_3, after0_4]
  rw [show (datsF m 0 c).Φ t.castSucc = Pipeline.ΦA spec0 c from rfl, PhiA0_eq]
  have hN : t.val < 32 := lt_of_lt_of_eq t.isLt (show cfg0.N = 32 from N_0)
  by_cases h0 : t.val % 32 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (datsF (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (datsF m 0 c).toRForget forgets0) T0 (V m)) r ∧ r.2.sem = fun _ => 0) :=
  Pipeline.θ_run_frame_around_T_forget (Q' := _) cfgs (datsF m) (0 : Fin 1) launch0 defs₀ Variants.none forgets0 T0 m ρ main
    (hbody := fun c => (body_obligation m c).loose) (hshare := fun c => (datsF m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (datsF m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => (datsF m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Frames.lean ====
/- The frame of the reference program: a program of host operations only, which has no semaphore. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-- The reference runs to its end, leaves its arguments as they were and every semaphore counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      sem_eq_zero_of_no_sems (by decide) r.2⟩)
    (Cert.ReferenceIdeal.Value.run (F := Ideal) m ρ)

end Cert.Proof

end
-- ==== Proof.Val.RunA.lean ====
/- The whole-body run of the idealized kernel at the first grid point, with what it stores in each output and each scratch named. -/
module

public import proofs.«01_k».proof.Proof.Forget.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def valRun_A (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) :
    Σ' (L5 : List (View.Piece (Elt F) S1x576x512 .bf16)), Σ' (L6 : List (View.Piece (Elt F) S1x512x1536 .i8)), Σ' (L7 : List (View.Piece (Elt F) S8x2048 .f32)), Σ' (LS0 : List (View.Piece (Elt F) S2x256x256 .bf16)), Σ' (LS1 : List (View.Piece (Elt F) S576x1536 .fp8e4m3)), { LS2 : List (View.Piece (Elt F) S576x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_quarot_down i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_quarot_down_eq_skeleton]; unfold cc0_quarot_down_skel
    simp only [k0_part9_eq_skeleton, k0_part8_eq_skeleton, k0_part1_eq_skeleton, k0_part2_eq_skeleton, k0_part3_eq_skeleton, k0_part4_eq_skeleton, k0_part5_eq_skeleton, k0_part6_eq_skeleton, k0_part7_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Gen

end
-- ==== Proof.Val.RunB.lean ====
/- The whole-body run of the idealized kernel at every later grid point, with what it stores in each output named. -/
module

public import proofs.«01_k».proof.Proof.Val.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 31: 31 of 32), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def valRun_B (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) :
    Σ' (L5 : List (View.Piece (Elt F) S1x576x512 .bf16)), Σ' (L6 : List (View.Piece (Elt F) S1x512x1536 .i8)), Σ' (L7 : List (View.Piece (Elt F) S8x2048 .f32)), Σ' (LS0 : List (View.Piece (Elt F) S2x256x256 .bf16)), Σ' (LS1 : List (View.Piece (Elt F) S576x1536 .fp8e4m3)), { LS2 : List (View.Piece (Elt F) S576x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xo7) L7) ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_quarot_down i arg2 harg2 arg3 harg3 arg4 harg4 arg5 harg5 arg6 harg6 arg7 harg7 arg8 harg8 arg9 harg9 arg10 harg10 arg11 harg11 arg12 harg12) K } := by
  refine ⟨?_, ?_, ?_, [], [], [], fun E K => ?run⟩
  case run =>
    simp only [cc0_quarot_down_eq_skeleton]; unfold cc0_quarot_down_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0; obtain rfl := harg11.eq_unread hfs1; obtain rfl := harg12.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexact H7
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.KernelIdeal.Gen

end
-- ==== Proof.Val.Outs.lean ====
/- What one run of the body leaves in each output and each scratch, in the two cases, as terms. -/
module

public import proofs.«01_k».proof.Proof.Val.RunB
public import Idealize.ShloMosaic.Lib.Pipeline.ValueKit
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- One staging buffer of output window 5, through which its contents are stated (`View.read_writes_of_cover`: the
    choice does not matter). -/
abbrev VO0_5 : View sig .tc .vmem S1x576x512 .bf16 := (Memref.whole cc0_stg5_0 : Memref sig .tc .vmem S1x576x512 .bf16).view
/-- One staging buffer of output window 6, through which its contents are stated (`View.read_writes_of_cover`: the
    choice does not matter). -/
abbrev VO0_6 : View sig .tc .vmem S1x512x1536 .i8 := (Memref.whole cc0_stg6_0 : Memref sig .tc .vmem S1x512x1536 .i8).view
/-- One staging buffer of output window 7, through which its contents are stated (`View.read_writes_of_cover`: the
    choice does not matter). -/
abbrev VO0_7 : View sig .tc .vmem S8x2048 .f32 := (Memref.whole cc0_stg7_0 : Memref sig .tc .vmem S8x2048 .f32).view
abbrev VS0_0 : View sig .tc .vmem S2x256x256 .bf16 := scM0_0.view
abbrev VS0_1 : View sig .tc .vmem S576x1536 .fp8e4m3 := scM0_1.view
abbrev VS0_2 : View sig .tc .vmem S576x128 .f32 := scM0_2.view

/-- Case A's pieces for output 5 tile its block (4 stores of `S1x576x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (y : S1x576x512.Idx) :
    ∃ pc ∈ (valRun_A c i arg2 harg2 arg3 harg3 arg4 harg4 arg5 harg5 arg6 harg6 arg7 harg7 arg8 harg8 arg9 harg9 arg10 harg10 arg11 harg11 arg12 harg12 hc0 x0 x1 x2 x3 x4 xo7).1, y ∈ pc.1.set :=
  View.cover_of_tiledL (valRun_A c i arg2 harg2 arg3 harg3 arg4 harg4 arg5 harg5 arg6 harg6 arg7 harg7 arg8 harg8 arg9 harg9 arg10 harg10 arg11 harg11 arg12 harg12 hc0 x0 x1 x2 x3 x4 xo7).1 S1x576x128.size (by sl_kernel_rfl) y

/-- What case A leaves in output 5's staging buffer: its pieces read back over junk. -/
def out0_A_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) : Vec F S1x576x512 .bf16 :=
  VO0_5.read (Elt F) (VO0_5.writes (Elt F) VO0_5.junk (valRun_A c i arg2 harg2 arg3 harg3 arg4 harg4 arg5 harg5 arg6 harg6 arg7 harg7 arg8 harg8 arg9 harg9 arg10 harg10 arg11 harg11 arg12 harg12 hc0 x0 x1 x2 x3 x4 xo7).1)

/-- Case A's pieces for output 6 tile its block (24 stores of `S1x256x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (y : S1x512x1536.Idx) :
    ∃ pc ∈ (valRun_A c i arg2 harg2 arg3 harg3 arg4 harg4 arg5 harg5 arg6 harg6 arg7 harg7 arg8 harg8 arg9 harg9 arg10 harg10 arg11 harg11 arg12 harg12 hc0 x0 x1 x2 x3 x4 xo7).2.1, y ∈ pc.1.set :=
  View.cover_of_tiledL (valRun_A c i arg2 harg2 arg3 harg3 arg4 harg4 arg5 harg5 arg6 harg6 arg7 harg7 arg8 harg8 arg9 harg9 arg10 harg10 arg11 harg11 arg12 harg12 hc0 x0 x1 x2 x3 x4 xo7).2.1 S1x256x128.size (by sl_kernel_rfl) y

/-- What case A leaves in output 6's staging buffer: its pieces read back over junk. -/
def out0_A_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) : Vec F S1x512x1536 .i8 :=
  VO0_6.read (Elt F) (VO0_6.writes (Elt F) VO0_6.junk (valRun_A c i arg2 harg2 arg3 harg3 arg4 harg4 arg5 harg5 arg6 harg6 arg7 harg7 arg8 harg8 arg9 harg9 arg10 harg10 arg11 harg11 arg12 harg12 hc0 x0 x1 x2 x3 x4 xo7).2.1)

/-- Case A's pieces for output 7 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (y : S8x2048.Idx) :
    ∃ pc ∈ (valRun_A c i arg2 harg2 arg3 harg3 arg4 harg4 arg5 harg5 arg6 harg6 arg7 harg7 arg8 harg8 arg9 harg9 arg10 harg10 arg11 harg11 arg12 harg12 hc0 x0 x1 x2 x3 x4 xo7).2.2.1, y ∈ pc.1.set :=
  View.cover_of_wholeMem (valRun_A c i arg2 harg2 arg3 harg3 arg4 harg4 arg5 harg5 arg6 harg6 arg7 harg7 arg8 harg8 arg9 harg9 arg10 harg10 arg11 harg11 arg12 harg12 hc0 x0 x1 x2 x3 x4 xo7).2.2.1 (by sl_whole_mem) y

/-- What case A leaves in output 7's staging buffer: its pieces read back over junk. -/
def out0_A_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) : Vec F S8x2048 .f32 :=
  VO0_7.read (Elt F) (VO0_7.writes (Elt F) VO0_7.junk (valRun_A c i arg2 harg2 arg3 harg3 arg4 harg4 arg5 harg5 arg6 harg6 arg7 harg7 arg8 harg8 arg9 harg9 arg10 harg10 arg11 harg11 arg12 harg12 hc0 x0 x1 x2 x3 x4 xo7).2.2.1)

/-- Case A's pieces for scratch `arg10`, which the kernel carries between points, cover it: 2 pieces of `S1x256x256` tiling it (Lib/Ring.lean `Piece.tiledL`). -/
theorem scover0_A_0 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (y : S2x256x256.Idx) :
    ∃ pc ∈ (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.1, y ∈ pc.1.set :=
  View.cover_of_tiledL (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.1 S1x256x256.size (by sl_kernel_rfl) y

/-- What case A leaves in scratch `arg10`: its pieces read back over junk. -/
def sout0_A_0 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) : Vec F S2x256x256 .bf16 :=
  VS0_0.read (Elt F) (VS0_0.writes (Elt F) VS0_0.junk (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.1)

/-- Case A's pieces for scratch `arg11`, which the kernel carries between points, cover it: 12 pieces of `S576x128` tiling it (Lib/Ring.lean `Piece.tiledL`). -/
theorem scover0_A_1 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (y : S576x1536.Idx) :
    ∃ pc ∈ (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.1, y ∈ pc.1.set :=
  View.cover_of_tiledL (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.1 S576x128.size (by sl_kernel_rfl) y

/-- What case A leaves in scratch `arg11`: its pieces read back over junk. -/
def sout0_A_1 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) : Vec F S576x1536 .fp8e4m3 :=
  VS0_1.read (Elt F) (VS0_1.writes (Elt F) VS0_1.junk (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.1)

/-- Case A's pieces for scratch `arg12`, which the kernel carries between points, cover it: 1 piece of `S576x128` tiling it (Lib/Ring.lean `Piece.tiledL`). -/
theorem scover0_A_2 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (y : S576x128.Idx) :
    ∃ pc ∈ (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.2.1, y ∈ pc.1.set :=
  View.cover_of_tiledL (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.2.1 S576x128.size (by sl_kernel_rfl) y

/-- What case A leaves in scratch `arg12`: its pieces read back over junk. -/
def sout0_A_2 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i)
    (x0 : Vec F S1x512x1536 .bf16) (x1 : Vec F S24x24 .f32) (x2 : Vec F S576x768 .i8) (x3 : Vec F S12x576 .i8) (x4 : Vec F S1x576 .f32) (xo7 : Vec F S8x2048 .f32) : Vec F S576x128 .f32 :=
  VS0_2.read (Elt F) (VS0_2.writes (Elt F) VS0_2.junk (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.2.1)

/-- Case B's pieces for output 5 tile its block (4 stores of `S1x576x128`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) (y : S1x576x512.Idx) :
    ∃ pc ∈ (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).1, y ∈ pc.1.set :=
  View.cover_of_tiledL (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).1 S1x576x128.size (by sl_kernel_rfl) y

/-- What case B leaves in output 5's staging buffer: its pieces read back over junk. -/
def out0_B_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) : Vec F S1x576x512 .bf16 :=
  VO0_5.read (Elt F) (VO0_5.writes (Elt F) VO0_5.junk (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).1)

/-- Case B's pieces for output 6 tile its block (24 stores of `S1x256x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) (y : S1x512x1536.Idx) :
    ∃ pc ∈ (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).2.1, y ∈ pc.1.set :=
  View.cover_of_tiledL (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).2.1 S1x256x128.size (by sl_kernel_rfl) y

/-- What case B leaves in output 6's staging buffer: its pieces read back over junk. -/
def out0_B_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) : Vec F S1x512x1536 .i8 :=
  VO0_6.read (Elt F) (VO0_6.writes (Elt F) VO0_6.junk (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).2.1)

/-- What case B leaves in output 7's staging buffer: its stores read back over what the point before left there (they do not cover the block). -/
def out0_B_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) : Vec F S8x2048 .f32 :=
  arg9.view.read (Elt F) (arg9.view.writes (Elt F) (harg9.unread xo7) (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).2.2.1)

/-- Case B stores nothing into scratch `arg10`: it holds what the point before left. -/
def sout0_B_0 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) : Vec F S2x256x256 .bf16 := xs0

/-- Case B stores nothing into scratch `arg11`: it holds what the point before left. -/
def sout0_B_1 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) : Vec F S576x1536 .fp8e4m3 := xs1

/-- Case B stores nothing into scratch `arg12`: it holds what the point before left. -/
def sout0_B_2 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i)
    (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) : Vec F S576x128 .f32 := xs2

end Cert.KernelIdeal.Gen

end
-- ==== Proof.Val.Chunk.lean ====
/- One chunk of 256 tokens as vector functions: rotation, scale, codes, product. -/
module

public import proofs.«01_k».proof.Proof.Val.Outs

@[expose] public section

set_option maxRecDepth 16384

noncomputable section

namespace Cert.KernelIdeal.Gen

open Idealize.ShloMosaic Idealize.ShloMosaic.TcCoe Idealize.ShloMosaic.Tactic

variable {F : FTy → Type} [FloatOps F]

/-- One 256-column slab of activations times one rotation tile. -/
def cDot (r x : Vec F S1x256x256 .bf16) : FVec F S256x256 .f32 :=
  matmul dot_S256x256_S256x256_S256x256_1_0_0_1_n_n none (shapeCast S256x256 x shapeCasts_S1x256x256_S256x256 : FVec F S256x256 .bf16)
    (shapeCast S256x256 r shapeCasts_S1x256x256_S256x256 : FVec F S256x256 .bf16) (constant S256x256 .f32 0x00000000#32)

/-- Lanes 0..127 of a product. -/
def cLo (v : FVec F S256x256 .f32) : FVec F S256x128 .f32 :=
  extractStridedSlice S256x128 ![0, 0] v slices_S256x256_o0_0_S256x128
/-- Lanes 128..255 of a product. -/
def cHi (v : FVec F S256x256 .f32) : FVec F S256x128 .f32 :=
  extractStridedSlice S256x128 ![0, 128] v slices_S256x256_o0_128_S256x128

/-- The three tiles of one group of 384 columns. -/
def cT (ra rb xa xb : Vec F S1x256x256 .bf16) (t : Fin 3) : FVec F S256x128 .f32 :=
  match t with
  | 0 => addf (cLo (cDot ra xa)) (cLo (cDot rb xb))
  | 1 => subf (cLo (cDot ra xa)) (cLo (cDot rb xb))
  | 2 => addf (cHi (cDot ra xa)) (cHi (cDot rb xb))

/-- The four-point butterfly over the groups. -/
def cB (x0 x1 x2 x3 : FVec F S256x128 .f32) (G : Fin 4) : FVec F S256x128 .f32 :=
  match G with
  | 0 => addf (addf x0 x1) (addf x2 x3)
  | 1 => addf (subf x0 x1) (subf x2 x3)
  | 2 => subf (addf x0 x1) (addf x2 x3)
  | 3 => subf (subf x0 x1) (subf x2 x3)

/-- The rotated activations of one chunk, before the common factor: group `G`, tile `t`. -/
def cOut (ra rb : Vec F S1x256x256 .bf16) (xa xb : Fin 4 → Vec F S1x256x256 .bf16) (G : Fin 4) (t : Fin 3) :
    FVec F S256x128 .f32 :=
  cB (cT ra rb (xa 0) (xb 0) t) (cT ra rb (xa 1) (xb 1) t) (cT ra rb (xa 2) (xb 2) t) (cT ra rb (xa 3) (xb 3) t) G

/-- The largest of the twelve tiles, lane by lane. -/
def cMax (O : Fin 4 → Fin 3 → FVec F S256x128 .f32) : FVec F S256x128 .f32 :=
  maximumf (maximumf (maximumf (maximumf (maximumf (maximumf (maximumf (maximumf (maximumf (maximumf (maximumf
    (absf (O 0 0)) (absf (O 0 1))) (absf (O 0 2))) (absf (O 1 0))) (absf (O 1 1))) (absf (O 1 2))) (absf (O 2 0)))
    (absf (O 2 1))) (absf (O 2 2))) (absf (O 3 0))) (absf (O 3 1))) (absf (O 3 2))

/-- The largest magnitude of each token, with the common factor. -/
def cAmax (O : Fin 4 → Fin 3 → FVec F S256x128 .f32) : FVec F S256x1 .f32 :=
  mulf (shapeCast S256x1 (multiReduction .maximumf [1] S256 (cMax O) 0xFF800000#32 reduces_S256x128_S256 (.inl rfl) rfl : FVec F S256 .f32)
    shapeCasts_S256_S256x1) (broadcast S256x1 (Scalar.ofBits .f32 0x3CD105EC#32 : F .f32))

/-- The scale of each token. -/
def cScale (O : Fin 4 → Fin 3 → FVec F S256x128 .f32) : FVec F S256x1 .f32 :=
  select (cmpf .oeq (cAmax O) (broadcast S256x1 (Scalar.ofBits .f32 0x00000000#32 : F .f32)))
    (broadcast S256x1 (Scalar.ofBits .f32 0x3F800000#32 : F .f32))
    (divf (cAmax O) (broadcast S256x1 (Scalar.ofBits .f32 0x40E00000#32 : F .f32)))

/-- The common factor over the scale. -/
def cInv (O : Fin 4 → Fin 3 → FVec F S256x128 .f32) : FVec F S256x1 .f32 :=
  divf (broadcast S256x1 (Scalar.ofBits .f32 0x3CD105EC#32 : F .f32)) (cScale O)

/-- The codes of one tile. -/
def cQ8 (O : Fin 4 → Fin 3 → FVec F S256x128 .f32) (G : Fin 4) (t : Fin 3) : IVec S256x128 8 :=
  fptosi 8 (minimumf (broadcast S256x128 (Scalar.ofBits .f32 0x40E00000#32 : F .f32))
    (maximumf (broadcast S256x128 (Scalar.ofBits .f32 0xC0E00000#32 : F .f32))
      (roundeven (mulf (O G t) (broadcastTo S256x128 (cInv O) broadcasts_S256x1_S256x128)))))

/-- The codes of one tile, four rows to a word. -/
def cQ (O : Fin 4 → Fin 3 → FVec F S256x128 .f32) (G : Fin 4) (t : Fin 3) : IVec S64x128 32 :=
  bitcast S64x128 32 (cQ8 O G t) bitcasts_S256x128_w8_S64x128_w32

/-- The difference tile's words, rolled by half a row of lanes. -/
def cRot (O : Fin 4 → Fin 3 → FVec F S256x128 .f32) (G : Fin 4) : IVec S64x128 32 :=
  dynamicRotate 1 64#32 none (cQ O G 1) rotates_S64x128_d1

/-- The three stored tiles of one group, as words. -/
def cW (O : Fin 4 → Fin 3 → FVec F S256x128 .f32) (G : Fin 4) (t : Fin 3) : IVec S64x128 32 :=
  match t with
  | 0 => cQ O G 0
  | 1 => select k0_pay41 (cQ O G 2) (cRot O G)
  | 2 => select k0_pay41 (cRot O G) (cQ O G 2)

/-- The three stored tiles of one group, as codes. -/
def cV (O : Fin 4 → Fin 3 → FVec F S256x128 .f32) (G : Fin 4) (t : Fin 3) : IVec S256x128 8 :=
  bitcast S256x128 8 (cW O G t) bitcasts_S64x128_w32_S256x128_w8

/-- The three stored tiles of one group, in the block's shape. -/
def cCode (O : Fin 4 → Fin 3 → FVec F S256x128 .f32) (G : Fin 4) (t : Fin 3) : Vec F S1x256x128 .i8 :=
  shapeCast S1x256x128 (cV O G t) shapeCasts_S256x128_S1x256x128

/-- One tile's codes as floats. -/
def cA8t (O : Fin 4 → Fin 3 → FVec F S256x128 .f32) (G : Fin 4) (t : Fin 3) : FVec F S256x128 .fp8e4m3 :=
  truncf .fp8e4m3 (sitofp .bf16 (cV O G t) : FVec F S256x128 .bf16) bitsLt_fp8e4m3_bf16

/-- The chunk's codes as floats, side by side. -/
def cA8 (O : Fin 4 → Fin 3 → FVec F S256x128 .f32) : FVec F S256x1536 .fp8e4m3 :=
  concatenate S256x1536 1 [⟨S256x128, cA8t O 0 0⟩, ⟨S256x128, cA8t O 0 1⟩, ⟨S256x128, cA8t O 0 2⟩, ⟨S256x128, cA8t O 1 0⟩, ⟨S256x128, cA8t O 1 1⟩, ⟨S256x128, cA8t O 1 2⟩, ⟨S256x128, cA8t O 2 0⟩, ⟨S256x128, cA8t O 2 1⟩, ⟨S256x128, cA8t O 2 2⟩, ⟨S256x128, cA8t O 3 0⟩, ⟨S256x128, cA8t O 3 1⟩, ⟨S256x128, cA8t O 3 2⟩] concatenates_S256x128_S256x128_S256x128_S256x128_S256x128_S256x128_S256x128_S256x128_S256x128_S256x128_S256x128_S256x128_S256x1536_d1

/-- The product of the weights with the codes. -/
def cAcc (O : Fin 4 → Fin 3 → FVec F S256x128 .f32) (w : Vec F S576x1536 .fp8e4m3) : FVec F S576x256 .f32 :=
  matmul dot_S576x1536_S256x1536_S576x256_1_1_0_0_n_n none w (cA8 O) (constant S576x256 .f32 0x00000000#32)

/-- The scales as a row. -/
def cLine (O : Fin 4 → Fin 3 → FVec F S256x128 .f32) : FVec F S1x256 .f32 := k0_pay143 (cScale O)

/-- 128 tokens of the second result, from the product, the scales and the channel scales. -/
def cY (acc : FVec F S576x128 .f32) (l : FVec F S1x128 .f32) (wsc : Vec F S576x128 .f32) : Vec F S1x576x128 .bf16 :=
  shapeCast S1x576x128 (truncf .bf16 (mulf (mulf acc (broadcastTo S576x128 l broadcasts_S1x128_S576x128)) wsc) bitsLt_bf16_f32 : FVec F S576x128 .bf16)
    shapeCasts_S576x128_S1x576x128

/-- The first 128 tokens of a chunk. -/
def cY0 (O : Fin 4 → Fin 3 → FVec F S256x128 .f32) (w : Vec F S576x1536 .fp8e4m3) (wsc : Vec F S576x128 .f32) : Vec F S1x576x128 .bf16 :=
  cY (extractStridedSlice S576x128 ![0, 0] (cAcc O w) slices_S576x256_o0_0_S576x128)
    (extractStridedSlice S1x128 ![0, 0] (cLine O) slices_S1x256_o0_0_S1x128) wsc
/-- The last 128 tokens of a chunk. -/
def cY1 (O : Fin 4 → Fin 3 → FVec F S256x128 .f32) (w : Vec F S576x1536 .fp8e4m3) (wsc : Vec F S576x128 .f32) : Vec F S1x576x128 .bf16 :=
  cY (extractStridedSlice S576x128 ![0, 128] (cAcc O w) slices_S576x256_o0_128_S576x128)
    (extractStridedSlice S1x128 ![0, 128] (cLine O) slices_S1x256_o0_128_S1x128) wsc

/-- The stores of the codes, last first. -/
def pcs6 (O0 O1 : Fin 4 → Fin 3 → FVec F S256x128 .f32) : List (View.Piece (Elt F) S1x512x1536 .i8) :=
  [⟨Rect.unit ![0, 256, 1408] ![1, 256, 128] inb_S1x512x1536_S1x256x128_0_256_1408, cCode O1 3 2⟩,
   ⟨Rect.unit ![0, 256, 1280] ![1, 256, 128] inb_S1x512x1536_S1x256x128_0_256_1280, cCode O1 3 1⟩,
   ⟨Rect.unit ![0, 256, 1152] ![1, 256, 128] inb_S1x512x1536_S1x256x128_0_256_1152, cCode O1 3 0⟩,
   ⟨Rect.unit ![0, 256, 1024] ![1, 256, 128] inb_S1x512x1536_S1x256x128_0_256_1024, cCode O1 2 2⟩,
   ⟨Rect.unit ![0, 256, 896] ![1, 256, 128] inb_S1x512x1536_S1x256x128_0_256_896, cCode O1 2 1⟩,
   ⟨Rect.unit ![0, 256, 768] ![1, 256, 128] inb_S1x512x1536_S1x256x128_0_256_768, cCode O1 2 0⟩,
   ⟨Rect.unit ![0, 256, 640] ![1, 256, 128] inb_S1x512x1536_S1x256x128_0_256_640, cCode O1 1 2⟩,
   ⟨Rect.unit ![0, 256, 512] ![1, 256, 128] inb_S1x512x1536_S1x256x128_0_256_512, cCode O1 1 1⟩,
   ⟨Rect.unit ![0, 256, 384] ![1, 256, 128] inb_S1x512x1536_S1x256x128_0_256_384, cCode O1 1 0⟩,
   ⟨Rect.unit ![0, 256, 256] ![1, 256, 128] inb_S1x512x1536_S1x256x128_0_256_256, cCode O1 0 2⟩,
   ⟨Rect.unit ![0, 256, 128] ![1, 256, 128] inb_S1x512x1536_S1x256x128_0_256_128, cCode O1 0 1⟩,
   ⟨Rect.unit ![0, 256, 0] ![1, 256, 128] inb_S1x512x1536_S1x256x128_0_256_0, cCode O1 0 0⟩,
   ⟨Rect.unit ![0, 0, 1408] ![1, 256, 128] inb_S1x512x1536_S1x256x128_0_0_1408, cCode O0 3 2⟩,
   ⟨Rect.unit ![0, 0, 1280] ![1, 256, 128] inb_S1x512x1536_S1x256x128_0_0_1280, cCode O0 3 1⟩,
   ⟨Rect.unit ![0, 0, 1152] ![1, 256, 128] inb_S1x512x1536_S1x256x128_0_0_1152, cCode O0 3 0⟩,
   ⟨Rect.unit ![0, 0, 1024] ![1, 256, 128] inb_S1x512x1536_S1x256x128_0_0_1024, cCode O0 2 2⟩,
   ⟨Rect.unit ![0, 0, 896] ![1, 256, 128] inb_S1x512x1536_S1x256x128_0_0_896, cCode O0 2 1⟩,
   ⟨Rect.unit ![0, 0, 768] ![1, 256, 128] inb_S1x512x1536_S1x256x128_0_0_768, cCode O0 2 0⟩,
   ⟨Rect.unit ![0, 0, 640] ![1, 256, 128] inb_S1x512x1536_S1x256x128_0_0_640, cCode O0 1 2⟩,
   ⟨Rect.unit ![0, 0, 512] ![1, 256, 128] inb_S1x512x1536_S1x256x128_0_0_512, cCode O0 1 1⟩,
   ⟨Rect.unit ![0, 0, 384] ![1, 256, 128] inb_S1x512x1536_S1x256x128_0_0_384, cCode O0 1 0⟩,
   ⟨Rect.unit ![0, 0, 256] ![1, 256, 128] inb_S1x512x1536_S1x256x128_0_0_256, cCode O0 0 2⟩,
   ⟨Rect.unit ![0, 0, 128] ![1, 256, 128] inb_S1x512x1536_S1x256x128_0_0_128, cCode O0 0 1⟩,
   ⟨Rect.unit ![0, 0, 0] ![1, 256, 128] inb_S1x512x1536_S1x256x128_0_0_0, cCode O0 0 0⟩]

/-- The stores of the second result, last first. -/
def pcs5 (O0 O1 : Fin 4 → Fin 3 → FVec F S256x128 .f32) (w : Vec F S576x1536 .fp8e4m3) (wsc : Vec F S576x128 .f32) :
    List (View.Piece (Elt F) S1x576x512 .bf16) :=
  [⟨Rect.unit ![0, 0, 384] ![1, 576, 128] inb_S1x576x512_S1x576x128_0_0_384, cY1 O1 w wsc⟩,
   ⟨Rect.unit ![0, 0, 256] ![1, 576, 128] inb_S1x576x512_S1x576x128_0_0_256, cY0 O1 w wsc⟩,
   ⟨Rect.unit ![0, 0, 128] ![1, 576, 128] inb_S1x576x512_S1x576x128_0_0_128, cY1 O0 w wsc⟩,
   ⟨Rect.unit ![0, 0, 0] ![1, 576, 128] inb_S1x576x512_S1x576x128_0_0_0, cY0 O0 w wsc⟩]

/-- One chunk's row of scales put into the columns read before. -/
def cRow (b : BitVec 32) (O : Fin 4 → Fin 3 → FVec F S256x128 .f32) (v : Vec F S8x256 .f32) : FVec F S8x256 .f32 :=
  k0_pay144 b (cScale O) v

end Cert.KernelIdeal.Gen

end
-- ==== Proof.Val.PiecesB.lean ====
/- The stores of one run of the body, in terms of the chunk functions: later points. -/
module

public import proofs.«01_k».proof.Proof.Val.Chunk

@[expose] public section

set_option maxRecDepth 16384

noncomputable section

namespace Cert.KernelIdeal.Gen

open Idealize.ShloMosaic Idealize.ShloMosaic.TcCoe Idealize.ShloMosaic.Tactic

variable {F : FTy → Type} [FloatOps F]

/-- The left slabs of chunk 0 (`ch = 0`) or chunk 1, as the body reads them. -/
def xaR (arg2 : Memref sig .tc .vmem S1x512x1536 .bf16) (harg2 : arg2.IsWhole) (x0 : Vec F S1x512x1536 .bf16) (ch : Fin 2) :
    Fin 4 → Vec F S1x256x256 .bf16 :=
  match ch with
  | 0 => ![View.readAt (Elt F) arg2.view (Rect.unit (s := S1x512x1536) ![0, 0, 0] S1x256x256.size inb_S1x512x1536_S1x256x256_0_0_0).toLoadRect (harg2.unread x0),
    View.readAt (Elt F) arg2.view (Rect.unit (s := S1x512x1536) ![0, 0, 384] S1x256x256.size inb_S1x512x1536_S1x256x256_0_0_384).toLoadRect (harg2.unread x0),
    View.readAt (Elt F) arg2.view (Rect.unit (s := S1x512x1536) ![0, 0, 768] S1x256x256.size inb_S1x512x1536_S1x256x256_0_0_768).toLoadRect (harg2.unread x0),
    View.readAt (Elt F) arg2.view (Rect.unit (s := S1x512x1536) ![0, 0, 1152] S1x256x256.size inb_S1x512x1536_S1x256x256_0_0_1152).toLoadRect (harg2.unread x0)]
  | 1 => ![View.readAt (Elt F) arg2.view (Rect.unit (s := S1x512x1536) ![0, 256, 0] S1x256x256.size inb_S1x512x1536_S1x256x256_0_256_0).toLoadRect (harg2.unread x0),
    View.readAt (Elt F) arg2.view (Rect.unit (s := S1x512x1536) ![0, 256, 384] S1x256x256.size inb_S1x512x1536_S1x256x256_0_256_384).toLoadRect (harg2.unread x0),
    View.readAt (Elt F) arg2.view (Rect.unit (s := S1x512x1536) ![0, 256, 768] S1x256x256.size inb_S1x512x1536_S1x256x256_0_256_768).toLoadRect (harg2.unread x0),
    View.readAt (Elt F) arg2.view (Rect.unit (s := S1x512x1536) ![0, 256, 1152] S1x256x256.size inb_S1x512x1536_S1x256x256_0_256_1152).toLoadRect (harg2.unread x0)]
/-- The right slabs. -/
def xbR (arg2 : Memref sig .tc .vmem S1x512x1536 .bf16) (harg2 : arg2.IsWhole) (x0 : Vec F S1x512x1536 .bf16) (ch : Fin 2) :
    Fin 4 → Vec F S1x256x256 .bf16 :=
  match ch with
  | 0 => ![View.readAt (Elt F) arg2.view (Rect.unit (s := S1x512x1536) ![0, 0, 128] S1x256x256.size inb_S1x512x1536_S1x256x256_0_0_128).toLoadRect (harg2.unread x0),
    View.readAt (Elt F) arg2.view (Rect.unit (s := S1x512x1536) ![0, 0, 512] S1x256x256.size inb_S1x512x1536_S1x256x256_0_0_512).toLoadRect (harg2.unread x0),
    View.readAt (Elt F) arg2.view (Rect.unit (s := S1x512x1536) ![0, 0, 896] S1x256x256.size inb_S1x512x1536_S1x256x256_0_0_896).toLoadRect (harg2.unread x0),
    View.readAt (Elt F) arg2.view (Rect.unit (s := S1x512x1536) ![0, 0, 1280] S1x256x256.size inb_S1x512x1536_S1x256x256_0_0_1280).toLoadRect (harg2.unread x0)]
  | 1 => ![View.readAt (Elt F) arg2.view (Rect.unit (s := S1x512x1536) ![0, 256, 128] S1x256x256.size inb_S1x512x1536_S1x256x256_0_256_128).toLoadRect (harg2.unread x0),
    View.readAt (Elt F) arg2.view (Rect.unit (s := S1x512x1536) ![0, 256, 512] S1x256x256.size inb_S1x512x1536_S1x256x256_0_256_512).toLoadRect (harg2.unread x0),
    View.readAt (Elt F) arg2.view (Rect.unit (s := S1x512x1536) ![0, 256, 896] S1x256x256.size inb_S1x512x1536_S1x256x256_0_256_896).toLoadRect (harg2.unread x0),
    View.readAt (Elt F) arg2.view (Rect.unit (s := S1x512x1536) ![0, 256, 1280] S1x256x256.size inb_S1x512x1536_S1x256x256_0_256_1280).toLoadRect (harg2.unread x0)]

/-- The first rotation tile as a later point reads it. -/
def raR (arg10 : Memref sig .tc .vmem S2x256x256 .bf16) (harg10 : arg10.IsWhole) (xs0 : Vec F S2x256x256 .bf16) : Vec F S1x256x256 .bf16 :=
  (View.readAt (Elt F) arg10.view (Rect.unit (s := S2x256x256) ![0, 0, 0] S1x256x256.size inb_S2x256x256_S1x256x256_0_0_0).toLoadRect (harg10.unread xs0))
/-- The second rotation tile as a later point reads it. -/
def rbR (arg10 : Memref sig .tc .vmem S2x256x256 .bf16) (harg10 : arg10.IsWhole) (xs0 : Vec F S2x256x256 .bf16) : Vec F S1x256x256 .bf16 :=
  (View.readAt (Elt F) arg10.view (Rect.unit (s := S2x256x256) ![1, 0, 0] S1x256x256.size inb_S2x256x256_S1x256x256_1_0_0).toLoadRect (harg10.unread xs0))
/-- The weights as a later point reads them. -/
def wR (arg11 : Memref sig .tc .vmem S576x1536 .fp8e4m3) (harg11 : arg11.IsWhole) (xs1 : Vec F S576x1536 .fp8e4m3) : Vec F S576x1536 .fp8e4m3 :=
  (View.readAt (Elt F) arg11.view (Rect.unit (s := S576x1536) ![0, 0] S576x1536.size inb_S576x1536_S576x1536_0_0).toLoadRect (harg11.unread xs1))
/-- The channel scales as a later point reads them. -/
def wscR (arg12 : Memref sig .tc .vmem S576x128 .f32) (harg12 : arg12.IsWhole) (xs2 : Vec F S576x128 .f32) : Vec F S576x128 .f32 :=
  (View.readAt (Elt F) arg12.view (Rect.unit (s := S576x128) ![0, 0] S576x128.size inb_S576x128_S576x128_0_0).toLoadRect (harg12.unread xs2))
/-- The rotated activations of a chunk at a later point. -/
def oB (arg2 : Memref sig .tc .vmem S1x512x1536 .bf16) (harg2 : arg2.IsWhole) (arg10 : Memref sig .tc .vmem S2x256x256 .bf16) (harg10 : arg10.IsWhole)
    (x0 : Vec F S1x512x1536 .bf16) (xs0 : Vec F S2x256x256 .bf16) (ch : Fin 2) : Fin 4 → Fin 3 → FVec F S256x128 .f32 :=
  cOut (raR arg10 harg10 xs0) (rbR arg10 harg10 xs0) (xaR arg2 harg2 x0 ch) (xbR arg2 harg2 x0 ch)

/-- What a later point stores into the codes. -/
theorem pieces_B_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i) (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) :
    (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).2.1 = pcs6 (oB arg2 harg2 arg10 harg10 x0 xs0 0) (oB arg2 harg2 arg10 harg10 x0 xs0 1) := by
  sl_kernel_rfl

/-- What a later point stores into the second result. -/
theorem pieces_B_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i) (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) :
    (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).1 = pcs5 (oB arg2 harg2 arg10 harg10 x0 xs0 0) (oB arg2 harg2 arg10 harg10 x0 xs0 1) (wR arg11 harg11 xs1) (wscR arg12 harg12 xs2) := by
  sl_kernel_rfl

/-- What a later point stores into the scales. -/
theorem pieces_B_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i) (x0 : Vec F S1x512x1536 .bf16) (x1 : Vec F S24x24 .f32) (x2 : Vec F S576x768 .i8) (x3 : Vec F S12x576 .i8) (x4 : Vec F S1x576 .f32) (xo7 : Vec F S8x2048 .f32) (xs0 : Vec F S2x256x256 .bf16) (xs1 : Vec F S576x1536 .fp8e4m3) (xs2 : Vec F S576x128 .f32) :
    (valRun_B c i arg2 harg2 arg3 harg3 arg4 harg4 arg5 harg5 arg6 harg6 arg7 harg7 arg8 harg8 arg9 harg9 arg10 harg10 arg11 harg11 arg12 harg12 hc0 x0 x1 x2 x3 x4 xo7 xs0 xs1 xs2).2.2.1 = [⟨Rect.unit (s := S8x2048) (k0_off1 i 256#32) ![8, 256] (k0_off1_inb i 1), cRow (BitVec.ofNat 32 (i 0).val) (oB arg2 harg2 arg10 harg10 x0 xs0 1)
        (View.readAt (Elt F) arg9.view (Rect.unit (s := S8x2048) (k0_off1 i 256#32) S8x256.size (k0_off1_inb i 1)).toLoadRect (harg9.unread xo7))⟩,
      ⟨Rect.unit (s := S8x2048) (k0_off1 i 0#32) ![8, 256] (k0_off1_inb i 0), cRow (BitVec.ofNat 32 (i 0).val) (oB arg2 harg2 arg10 harg10 x0 xs0 0)
        (View.readAt (Elt F) arg9.view (Rect.unit (s := S8x2048) (k0_off1 i 0#32) S8x256.size (k0_off1_inb i 0)).toLoadRect (harg9.unread xo7))⟩] := by
  rfl

end Cert.KernelIdeal.Gen

end
-- ==== Proof.Val.PiecesA.lean ====
/- The stores of one run of the body, in terms of the chunk functions: the first point. -/
module

public import proofs.«01_k».proof.Proof.Val.PiecesB

@[expose] public section

set_option maxRecDepth 16384

noncomputable section

namespace Cert.KernelIdeal.Gen

open Idealize.ShloMosaic Idealize.ShloMosaic.TcCoe Idealize.ShloMosaic.Tactic

variable {F : FTy → Type} [FloatOps F]

/-- The stores of the two rotation tiles, last first, from the small matrix. -/
def pcsRot (had : Vec F S24x24 .f32) : List (View.Piece (Elt F) S2x256x256 .bf16) :=
  [⟨Rect.unit ![1, 0, 0] ![1, 256, 256] inb_S2x256x256_S1x256x256_1_0_0,
      k0_pay13 (k0_pay10 (k0_pay5 had) k0_pay8 (iota .tc S256x24 32 [1] iota_S256x24_d1_w32) k0_pay9 24#32) (iota .tc S256x256 32 [1] iota_S256x256_d1_w32) k0_pay11 k0_pay12⟩,
    ⟨Rect.unit ![0, 0, 0] ![1, 256, 256] inb_S2x256x256_S1x256x256_0_0_0, k0_pay7 (k0_pay6 had) (iota .tc S256x256 32 [0] iota_S256x256_d0_w32)⟩]

/-- One stored column of the weights: the low (`sh = 28`) or high (`sh = 24`) fields of 128 packed columns, times the
    powers of their group. -/
def cWt (sh : BitVec 32) (pw : FVec F S576x1 .bf16) (wp : Vec F S576x128 .i8) : FVec F S576x128 .fp8e4m3 :=
  shapeCast S576x128 (truncf .fp8e4m3 (mulf (truncf .bf16 (sitofp .f32 (shrsi (shli (extui 32 wp natLt_8_32 : IVec S576x128 32) (broadcast S576x128 sh)) (broadcast S576x128 28#32) : IVec S576x128 32) : FVec F S576x128 .f32) bitsLt_bf16_f32 : FVec F S576x128 .bf16)
    (broadcastTo S576x128 pw broadcasts_S576x1_S576x128)) bitsLt_fp8e4m3_bf16 : FVec F S576x128 .fp8e4m3) shapeCasts_S576x128_S576x128

/-- The stores of the weights, last first, from the packed columns read and the exponents. -/
def pcsW (wp : Fin 6 → Vec F S576x128 .i8) (ge : Vec F S12x576 .i8) : List (View.Piece (Elt F) S576x1536 .fp8e4m3) :=
  [⟨Rect.unit ![0, 1408] ![576, 128] inb_S576x1536_S576x128_0_1408, cWt 24#32 (extractStridedSlice S576x1 ![0, 11] (k0_pay14 ge) slices_S576x12_o0_11_S576x1) (wp 5)⟩,
    ⟨Rect.unit ![0, 640] ![576, 128] inb_S576x1536_S576x128_0_640, cWt 28#32 (extractStridedSlice S576x1 ![0, 5] (k0_pay14 ge) slices_S576x12_o0_5_S576x1) (wp 5)⟩,
    ⟨Rect.unit ![0, 1280] ![576, 128] inb_S576x1536_S576x128_0_1280, cWt 24#32 (extractStridedSlice S576x1 ![0, 10] (k0_pay14 ge) slices_S576x12_o0_10_S576x1) (wp 4)⟩,
    ⟨Rect.unit ![0, 512] ![576, 128] inb_S576x1536_S576x128_0_512, cWt 28#32 (extractStridedSlice S576x1 ![0, 4] (k0_pay14 ge) slices_S576x12_o0_4_S576x1) (wp 4)⟩,
    ⟨Rect.unit ![0, 1152] ![576, 128] inb_S576x1536_S576x128_0_1152, cWt 24#32 (extractStridedSlice S576x1 ![0, 9] (k0_pay14 ge) slices_S576x12_o0_9_S576x1) (wp 3)⟩,
    ⟨Rect.unit ![0, 384] ![576, 128] inb_S576x1536_S576x128_0_384, cWt 28#32 (extractStridedSlice S576x1 ![0, 3] (k0_pay14 ge) slices_S576x12_o0_3_S576x1) (wp 3)⟩,
    ⟨Rect.unit ![0, 1024] ![576, 128] inb_S576x1536_S576x128_0_1024, cWt 24#32 (extractStridedSlice S576x1 ![0, 8] (k0_pay14 ge) slices_S576x12_o0_8_S576x1) (wp 2)⟩,
    ⟨Rect.unit ![0, 256] ![576, 128] inb_S576x1536_S576x128_0_256, cWt 28#32 (extractStridedSlice S576x1 ![0, 2] (k0_pay14 ge) slices_S576x12_o0_2_S576x1) (wp 2)⟩,
    ⟨Rect.unit ![0, 896] ![576, 128] inb_S576x1536_S576x128_0_896, cWt 24#32 (extractStridedSlice S576x1 ![0, 7] (k0_pay14 ge) slices_S576x12_o0_7_S576x1) (wp 1)⟩,
    ⟨Rect.unit ![0, 128] ![576, 128] inb_S576x1536_S576x128_0_128, cWt 28#32 (extractStridedSlice S576x1 ![0, 1] (k0_pay14 ge) slices_S576x12_o0_1_S576x1) (wp 1)⟩,
    ⟨Rect.unit ![0, 768] ![576, 128] inb_S576x1536_S576x128_0_768, cWt 24#32 (extractStridedSlice S576x1 ![0, 6] (k0_pay14 ge) slices_S576x12_o0_6_S576x1) (wp 0)⟩,
    ⟨Rect.unit ![0, 0] ![576, 128] inb_S576x1536_S576x128_0_0, cWt 28#32 (extractStridedSlice S576x1 ![0, 0] (k0_pay14 ge) slices_S576x12_o0_0_S576x1) (wp 0)⟩]

/-- The packed columns as the body reads them. -/
def wpR (arg4 : Memref sig .tc .vmem S576x768 .i8) (harg4 : arg4.IsWhole) (x2 : Vec F S576x768 .i8) : Fin 6 → Vec F S576x128 .i8 :=
  ![View.readAt (Elt F) arg4.view (Rect.unit (s := S576x768) ![0, 0] S576x128.size inb_S576x768_S576x128_0_0).toLoadRect (harg4.unread x2),
    View.readAt (Elt F) arg4.view (Rect.unit (s := S576x768) ![0, 128] S576x128.size inb_S576x768_S576x128_0_128).toLoadRect (harg4.unread x2),
    View.readAt (Elt F) arg4.view (Rect.unit (s := S576x768) ![0, 256] S576x128.size inb_S576x768_S576x128_0_256).toLoadRect (harg4.unread x2),
    View.readAt (Elt F) arg4.view (Rect.unit (s := S576x768) ![0, 384] S576x128.size inb_S576x768_S576x128_0_384).toLoadRect (harg4.unread x2),
    View.readAt (Elt F) arg4.view (Rect.unit (s := S576x768) ![0, 512] S576x128.size inb_S576x768_S576x128_0_512).toLoadRect (harg4.unread x2),
    View.readAt (Elt F) arg4.view (Rect.unit (s := S576x768) ![0, 640] S576x128.size inb_S576x768_S576x128_0_640).toLoadRect (harg4.unread x2)]

/-- The rotated activations of a chunk at the first point. -/
def oA (arg2 : Memref sig .tc .vmem S1x512x1536 .bf16) (harg2 : arg2.IsWhole) (arg10 : Memref sig .tc .vmem S2x256x256 .bf16)
    (x0 : Vec F S1x512x1536 .bf16) (had : Vec F S24x24 .f32) (ch : Fin 2) : Fin 4 → Fin 3 → FVec F S256x128 .f32 :=
  cOut (arg10.view.readCov (pcsRot had) (Rect.unit (s := S2x256x256) ![0, 0, 0] S1x256x256.size inb_S2x256x256_S1x256x256_0_0_0).toLoadRect)
    (arg10.view.readCov (pcsRot had) (Rect.unit (s := S2x256x256) ![1, 0, 0] S1x256x256.size inb_S2x256x256_S1x256x256_1_0_0).toLoadRect)
    (xaR arg2 harg2 x0 ch) (xbR arg2 harg2 x0 ch)

/-- What the first point stores into the rotation scratch. -/
theorem spieces_A_0 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec F S1x512x1536 .bf16) (x1 : Vec F S24x24 .f32) (x2 : Vec F S576x768 .i8) (x3 : Vec F S12x576 .i8) (x4 : Vec F S1x576 .f32) (xo7 : Vec F S8x2048 .f32) :
    (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.1 = pcsRot (View.readAt (Elt F) arg3.view (Rect.unit (s := S24x24) ![0, 0] S24x24.size inb_S24x24_S24x24_0_0).toLoadRect (harg3.unread x1)) := by
  sl_kernel_rfl

/-- What the first point stores into the weight scratch. -/
theorem spieces_A_1 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec F S1x512x1536 .bf16) (x1 : Vec F S24x24 .f32) (x2 : Vec F S576x768 .i8) (x3 : Vec F S12x576 .i8) (x4 : Vec F S1x576 .f32) (xo7 : Vec F S8x2048 .f32) :
    (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.1 = (pcsW (wpR arg4 harg4 x2) (View.readAt (Elt F) arg5.view (Rect.unit (s := S12x576) ![0, 0] S12x576.size inb_S12x576_S12x576_0_0).toLoadRect (harg5.unread x3))) := by
  sl_kernel_rfl

/-- What the first point stores into the channel-scale scratch. -/
theorem spieces_A_2 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec F S1x512x1536 .bf16) (x1 : Vec F S24x24 .f32) (x2 : Vec F S576x768 .i8) (x3 : Vec F S12x576 .i8) (x4 : Vec F S1x576 .f32) (xo7 : Vec F S8x2048 .f32) :
    (valRun_A c i arg2 harg2 arg3 harg3 arg4 harg4 arg5 harg5 arg6 harg6 arg7 harg7 arg8 harg8 arg9 harg9 arg10 harg10 arg11 harg11 arg12 harg12 hc0 x0 x1 x2 x3 x4 xo7).2.2.2.2.2.1 = [⟨Rect.unit ![0, 0] ![576, 128] inb_S576x128_S576x128_0_0, k0_pay38 (k0_pay37 (View.readAt (Elt F) arg6.view (Rect.unit (s := S1x576) ![0, 0] S1x576.size inb_S1x576_S1x576_0_0).toLoadRect (harg6.unread x4)))⟩] := by
  sl_kernel_rfl

/-- What the first point stores into the codes. -/
theorem pieces_A_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec F S1x512x1536 .bf16) (x1 : Vec F S24x24 .f32) (x2 : Vec F S576x768 .i8) (x3 : Vec F S12x576 .i8) (x4 : Vec F S1x576 .f32) (xo7 : Vec F S8x2048 .f32) :
    (valRun_A c i arg2 harg2 arg3 harg3 arg4 harg4 arg5 harg5 arg6 harg6 arg7 harg7 arg8 harg8 arg9 harg9 arg10 harg10 arg11 harg11 arg12 harg12 hc0 x0 x1 x2 x3 x4 xo7).2.1 = pcs6 (oA arg2 harg2 arg10 x0 (View.readAt (Elt F) arg3.view (Rect.unit (s := S24x24) ![0, 0] S24x24.size inb_S24x24_S24x24_0_0).toLoadRect (harg3.unread x1)) 0) (oA arg2 harg2 arg10 x0 (View.readAt (Elt F) arg3.view (Rect.unit (s := S24x24) ![0, 0] S24x24.size inb_S24x24_S24x24_0_0).toLoadRect (harg3.unread x1)) 1) := by
  sl_kernel_rfl

/-- What the first point stores into the second result. -/
theorem pieces_A_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec F S1x512x1536 .bf16) (x1 : Vec F S24x24 .f32) (x2 : Vec F S576x768 .i8) (x3 : Vec F S12x576 .i8) (x4 : Vec F S1x576 .f32) (xo7 : Vec F S8x2048 .f32) :
    (valRun_A c i arg2 harg2 arg3 harg3 arg4 harg4 arg5 harg5 arg6 harg6 arg7 harg7 arg8 harg8 arg9 harg9 arg10 harg10 arg11 harg11 arg12 harg12 hc0 x0 x1 x2 x3 x4 xo7).1 = pcs5 (oA arg2 harg2 arg10 x0 (View.readAt (Elt F) arg3.view (Rect.unit (s := S24x24) ![0, 0] S24x24.size inb_S24x24_S24x24_0_0).toLoadRect (harg3.unread x1)) 0) (oA arg2 harg2 arg10 x0 (View.readAt (Elt F) arg3.view (Rect.unit (s := S24x24) ![0, 0] S24x24.size inb_S24x24_S24x24_0_0).toLoadRect (harg3.unread x1)) 1)
      (arg11.view.readCov (pcsW (wpR arg4 harg4 x2) (View.readAt (Elt F) arg5.view (Rect.unit (s := S12x576) ![0, 0] S12x576.size inb_S12x576_S12x576_0_0).toLoadRect (harg5.unread x3))) (Rect.unit (s := S576x1536) ![0, 0] S576x1536.size inb_S576x1536_S576x1536_0_0).toLoadRect)
      (arg12.view.readCov [⟨Rect.unit ![0, 0] ![576, 128] inb_S576x128_S576x128_0_0, k0_pay38 (k0_pay37 (View.readAt (Elt F) arg6.view (Rect.unit (s := S1x576) ![0, 0] S1x576.size inb_S1x576_S1x576_0_0).toLoadRect (harg6.unread x4)))⟩] (Rect.unit (s := S576x128) ![0, 0] S576x128.size inb_S576x128_S576x128_0_0).toLoadRect) := by
  sl_kernel_rfl

/-- What the first point stores into the scales: zero everywhere, then the two chunks' rows. -/
theorem pieces_A_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec F S1x512x1536 .bf16) (x1 : Vec F S24x24 .f32) (x2 : Vec F S576x768 .i8) (x3 : Vec F S12x576 .i8) (x4 : Vec F S1x576 .f32) (xo7 : Vec F S8x2048 .f32) :
    (valRun_A c i arg2 harg2 arg3 harg3 arg4 harg4 arg5 harg5 arg6 harg6 arg7 harg7 arg8 harg8 arg9 harg9 arg10 harg10 arg11 harg11 arg12 harg12 hc0 x0 x1 x2 x3 x4 xo7).2.2.1 = [⟨Rect.unit (k0_off1 i 256#32) ![8, 256] (k0_off1_inb i 1), cRow (BitVec.ofNat 32 (i 0).val) (oA arg2 harg2 arg10 x0 (View.readAt (Elt F) arg3.view (Rect.unit (s := S24x24) ![0, 0] S24x24.size inb_S24x24_S24x24_0_0).toLoadRect (harg3.unread x1)) 1)
        (View.readAt (Elt F) arg9.view (Rect.unit (s := S8x2048) (k0_off1 i 256#32) S8x256.size (k0_off1_inb i 1)).toLoadRect
          (arg9.view.writes (Elt F) arg9.view.junk [⟨Rect.unit (k0_off1 i 0#32) ![8, 256] (k0_off1_inb i 0), cRow (BitVec.ofNat 32 (i 0).val) (oA arg2 harg2 arg10 x0 (View.readAt (Elt F) arg3.view (Rect.unit (s := S24x24) ![0, 0] S24x24.size inb_S24x24_S24x24_0_0).toLoadRect (harg3.unread x1)) 0)
        (View.readAt (Elt F) arg9.view (Rect.unit (s := S8x2048) (k0_off1 i 0#32) S8x256.size (k0_off1_inb i 0)).toLoadRect
          (arg9.view.writes (Elt F) arg9.view.junk [⟨Rect.unit ![0, 0] ![8, 2048] inb_S8x2048_S8x2048_0_0, k0_pay4⟩]))⟩, ⟨Rect.unit ![0, 0] ![8, 2048] inb_S8x2048_S8x2048_0_0, k0_pay4⟩]))⟩,
      ⟨Rect.unit (k0_off1 i 0#32) ![8, 256] (k0_off1_inb i 0), cRow (BitVec.ofNat 32 (i 0).val) (oA arg2 harg2 arg10 x0 (View.readAt (Elt F) arg3.view (Rect.unit (s := S24x24) ![0, 0] S24x24.size inb_S24x24_S24x24_0_0).toLoadRect (harg3.unread x1)) 0)
        (View.readAt (Elt F) arg9.view (Rect.unit (s := S8x2048) (k0_off1 i 0#32) S8x256.size (k0_off1_inb i 0)).toLoadRect
          (arg9.view.writes (Elt F) arg9.view.junk [⟨Rect.unit ![0, 0] ![8, 2048] inb_S8x2048_S8x2048_0_0, k0_pay4⟩]))⟩,
      ⟨Rect.unit ![0, 0] ![8, 2048] inb_S8x2048_S8x2048_0_0, k0_pay4⟩] := by
  sl_kernel_rfl

end Cert.KernelIdeal.Gen

end
-- ==== Proof.Val.Math.lean ====
/- The rotation over the reals: the plain sum, and the way the body splits it. -/
module

public import Idealize.ShloMosaic.Lib.Pointwise

@[expose] public section

noncomputable section

namespace Cert.Spec

open Finset

/-- The sign of the Walsh–Hadamard matrix: minus one when `q` and `p` share an odd number of set bits. -/
def sg (q p : ℕ) : ℤ :=
  if ((q &&& p).testBit 0 ^^ (q &&& p).testBit 1 ^^ (q &&& p).testBit 2 ^^ (q &&& p).testBit 3 ^^ (q &&& p).testBit 4 ^^
    (q &&& p).testBit 5) then -1 else 1

/-- The rotated row: entry `n` of `x` against the Walsh–Hadamard matrix over blocks of 24 and `h` inside a block. -/
def rotU (x : ℕ → ℝ) (h : ℕ → ℕ → ℝ) (n : ℕ) : ℝ :=
  ∑ i ∈ range 1536, (sg (n / 24) (i / 24) : ℝ) * h (n % 24) (i % 24) * x i

/-- The sum of one half group of 192 entries, from entry `s` on. -/
def halfU (x : ℕ → ℝ) (h : ℕ → ℕ → ℝ) (s q j : ℕ) : ℝ :=
  ∑ i ∈ range 192, (sg q (i / 24) : ℝ) * h j (i % 24) * x (s + i)

/-- One group's share of the rotated row, at place `m` of the group. -/
def groupU (x : ℕ → ℝ) (h : ℕ → ℕ → ℝ) (g m : ℕ) : ℝ :=
  ∑ i ∈ range 384, (sg (m / 24) (i / 24) : ℝ) * h (m % 24) (i % 24) * x (384 * g + i)

/-- The sign splits over the base-16 digits, by cases. -/
theorem sg_split' : ∀ G g : Fin 4, ∀ q p : Fin 16, sg (16 * G.val + q.val) (16 * g.val + p.val) = sg G.val g.val * sg q.val p.val := by
  decide +kernel

/-- The sign over groups of 16 blocks is the sign of the groups times the sign inside. -/
theorem sg_split (G g q p : ℕ) (hG : G < 4) (hg : g < 4) (hq : q < 16) (hp : p < 16) :
    sg (16 * G + q) (16 * g + p) = sg G g * sg q p :=
  sg_split' ⟨G, hG⟩ ⟨g, hg⟩ ⟨q, hq⟩ ⟨p, hp⟩

/-- The sign splits over the top bit of a digit, by cases. -/
theorem sg8' : ∀ q p : Fin 8, sg q.val (8 + p.val) = sg q.val p.val ∧ sg (8 + q.val) p.val = sg q.val p.val ∧
    sg (8 + q.val) (8 + p.val) = - sg q.val p.val := by
  decide +kernel

/-- The sign over halves of 8 blocks. -/
theorem sg8 (q p : ℕ) (hq : q < 8) (hp : p < 8) : sg q (8 + p) = sg q p ∧ sg (8 + q) p = sg q p ∧
    sg (8 + q) (8 + p) = - sg q p := sg8' ⟨q, hq⟩ ⟨p, hp⟩

/-- A group's share at a place of its first half. -/
theorem groupU_lo (x : ℕ → ℝ) (h : ℕ → ℕ → ℝ) (g m : ℕ) (hm : m < 192) :
    groupU x h g m = halfU x h (384 * g) (m / 24) (m % 24) + halfU x h (384 * g + 192) (m / 24) (m % 24) := by
  unfold groupU halfU
  rw [show (384 : ℕ) = 192 + 192 from rfl, sum_range_add]
  congr 1
  refine sum_congr rfl fun i hi => ?_
  have hi := mem_range.1 hi
  rw [show (192 + i) / 24 = 8 + i / 24 by omega, show (192 + i) % 24 = i % 24 by omega,
    (sg8 (m / 24) (i / 24) (by omega) (by omega)).1]
  simp only [Nat.add_assoc]

/-- A group's share at a place of its second half. -/
theorem groupU_hi (x : ℕ → ℝ) (h : ℕ → ℕ → ℝ) (g m : ℕ) (hm : m < 192) :
    groupU x h g (192 + m) = halfU x h (384 * g) (m / 24) (m % 24) - halfU x h (384 * g + 192) (m / 24) (m % 24) := by
  unfold groupU halfU
  rw [show (384 : ℕ) = 192 + 192 from rfl, sum_range_add, sub_eq_add_neg, ← sum_neg_distrib]
  congr 1
  · refine sum_congr rfl fun i hi => ?_
    have hi := mem_range.1 hi
    rw [show (192 + m) / 24 = 8 + m / 24 by omega, show (192 + m) % 24 = m % 24 by omega,
      (sg8 (m / 24) (i / 24) (by omega) (by omega)).2.1]
  · refine sum_congr rfl fun i hi => ?_
    have hi := mem_range.1 hi
    rw [show (192 + i) / 24 = 8 + i / 24 by omega, show (192 + i) % 24 = i % 24 by omega,
      show (192 + m) / 24 = 8 + m / 24 by omega, show (192 + m) % 24 = m % 24 by omega,
      (sg8 (m / 24) (i / 24) (by omega) (by omega)).2.2]
    simp only [Nat.add_assoc]
    push_cast
    ring

/-- The rotated row from the groups' shares. -/
theorem rotU_group (x : ℕ → ℝ) (h : ℕ → ℕ → ℝ) (G m : ℕ) (hG : G < 4) (hm : m < 384) :
    rotU x h (384 * G + m) = (sg G 0 : ℝ) * groupU x h 0 m + sg G 1 * groupU x h 1 m + sg G 2 * groupU x h 2 m +
      sg G 3 * groupU x h 3 m := by
  have key : ∀ g, g < 4 → ∑ i ∈ range 384, (sg ((384 * G + m) / 24) ((384 * g + i) / 24) : ℝ) *
      h ((384 * G + m) % 24) ((384 * g + i) % 24) * x (384 * g + i) = (sg G g : ℝ) * groupU x h g m := by
    intro g hg
    unfold groupU
    rw [mul_sum]
    refine sum_congr rfl fun i hi => ?_
    have hi := mem_range.1 hi
    rw [show (384 * G + m) / 24 = 16 * G + m / 24 by omega, show (384 * g + i) / 24 = 16 * g + i / 24 by omega,
      show (384 * G + m) % 24 = m % 24 by omega, show (384 * g + i) % 24 = i % 24 by omega,
      sg_split G g _ _ hG hg (by omega) (by omega)]
    push_cast
    ring
  unfold rotU
  rw [show (1536 : ℕ) = 384 + 384 + 384 + 384 from rfl, sum_range_add, sum_range_add, sum_range_add,
    ← key 0 (by omega), ← key 1 (by omega), ← key 2 (by omega), ← key 3 (by omega)]
  simp

/-- The signs of the four-point butterfly. -/
theorem sg4 : sg 0 0 = 1 ∧ sg 0 1 = 1 ∧ sg 0 2 = 1 ∧ sg 0 3 = 1 ∧ sg 1 0 = 1 ∧ sg 1 1 = -1 ∧ sg 1 2 = 1 ∧ sg 1 3 = -1 ∧
    sg 2 0 = 1 ∧ sg 2 1 = 1 ∧ sg 2 2 = -1 ∧ sg 2 3 = -1 ∧ sg 3 0 = 1 ∧ sg 3 1 = -1 ∧ sg 3 2 = -1 ∧ sg 3 3 = 1 := by
  decide +kernel

/-- The column of the small matrix and of the sign that lane `c` of a rotation tile stands for. -/
def ccol (c : ℕ) : ℕ := if c < 192 then c else c - 64

/-- Entry `(r, c)` of rotation tile `o`. -/
def rotR (h : ℕ → ℕ → ℝ) (o r c : ℕ) : ℝ :=
  if 64 * o ≤ r ∧ r < 64 * o + 192 then
    (sg (ccol c / 24) ((r - 64 * o) / 24) : ℝ) * (if o = 1 ∧ 192 ≤ c then -1 else 1) * h (ccol c % 24) ((r - 64 * o) % 24)
  else 0

/-- The left slab against tile 0. -/
theorem dotA (x : ℕ → ℝ) (h : ℕ → ℕ → ℝ) (s c : ℕ) :
    ∑ j ∈ range 256, x (s + j) * rotR h 0 j c = halfU x h s (ccol c / 24) (ccol c % 24) := by
  rw [show (256 : ℕ) = 192 + 64 from rfl, sum_range_add]
  unfold halfU rotR
  rw [sum_eq_zero (s := range 64), add_zero]
  · refine sum_congr rfl fun i hi => ?_
    have hi := mem_range.1 hi
    rw [if_pos (by omega)]
    simp
    ring
  · intro i hi
    rw [if_neg (by omega), mul_zero]

/-- The right slab against tile 1. -/
theorem dotB (x : ℕ → ℝ) (h : ℕ → ℕ → ℝ) (s c : ℕ) :
    ∑ j ∈ range 256, x (s + j) * rotR h 1 j c =
      (if 192 ≤ c then -1 else 1) * halfU x h (s + 64) (ccol c / 24) (ccol c % 24) := by
  rw [show (256 : ℕ) = 64 + 192 from rfl, sum_range_add]
  unfold halfU rotR
  rw [sum_eq_zero (s := range 64), zero_add, mul_sum]
  · refine sum_congr rfl fun i hi => ?_
    have hi := mem_range.1 hi
    rw [if_pos (by omega), show 64 + i - 64 * 1 = i by omega]
    simp only [true_and, Nat.add_assoc]
    ring
  · intro i hi
    have hi := mem_range.1 hi
    rw [if_neg (by omega), mul_zero]

/-- The place in its group that lane `l` of tile `t` stands for. -/
def pos (t l : ℕ) : ℕ := if t = 0 then l else if t = 1 then 192 + l else if l < 64 then 128 + l else 256 + l

/-- Tile `t` of group `g`, from the products with the two rotation tiles. -/
theorem tile_eq (x : ℕ → ℝ) (h : ℕ → ℕ → ℝ) (g l : ℕ) (hl : l < 128) :
    ((∑ j ∈ range 256, x (384 * g + j) * rotR h 0 j l) + (∑ j ∈ range 256, x (384 * g + 128 + j) * rotR h 1 j l)
      = groupU x h g (pos 0 l)) ∧
    ((∑ j ∈ range 256, x (384 * g + j) * rotR h 0 j l) - (∑ j ∈ range 256, x (384 * g + 128 + j) * rotR h 1 j l)
      = groupU x h g (pos 1 l)) ∧
    ((∑ j ∈ range 256, x (384 * g + j) * rotR h 0 j (128 + l)) +
      (∑ j ∈ range 256, x (384 * g + 128 + j) * rotR h 1 j (128 + l)) = groupU x h g (pos 2 l)) := by
  simp only [dotA, dotB]
  have e1 : ccol l = l := if_pos (by omega)
  refine ⟨?_, ?_, ?_⟩
  · rw [show pos 0 l = l from rfl, groupU_lo _ _ _ _ (by omega), e1, if_neg (by omega), one_mul]
  · rw [show pos 1 l = 192 + l from rfl, groupU_hi _ _ _ _ (by omega), e1, if_neg (by omega), one_mul]
  · by_cases h64 : l < 64
    · rw [show pos 2 l = 128 + l by simp [pos, h64], groupU_lo _ _ _ _ (by omega),
        show ccol (128 + l) = 128 + l from if_pos (by omega), if_neg (by omega), one_mul]
    · rw [show pos 2 l = 192 + (64 + l) by simp [pos, h64]; omega, groupU_hi _ _ _ _ (by omega),
        show ccol (128 + l) = 64 + l by unfold ccol; rw [if_neg (by omega)]; omega, if_pos (by omega)]
      ring

/-- Every column of a row is stood for by one tile and lane. -/
theorem pos_surj (n : ℕ) (hn : n < 1536) : ∃ G < 4, ∃ t < 3, ∃ l < 128, n = 384 * G + pos t l := by
  refine ⟨n / 384, by omega, ?_⟩
  by_cases h0 : n % 384 < 128
  · exact ⟨0, by omega, n % 384, h0, by simp [pos]; omega⟩
  by_cases h1 : n % 384 < 192
  · exact ⟨2, by omega, n % 384 - 128, by omega, by rw [show pos 2 (n % 384 - 128) = n % 384 by
      simp only [pos]; rw [if_neg (by omega), if_neg (by omega), if_pos (by omega)]; omega]; omega⟩
  by_cases h2 : n % 384 < 320
  · have e : pos 1 (n % 384 - 192) = n % 384 := by
      simp only [pos, one_ne_zero, if_false, if_true]; omega
    exact ⟨1, by omega, n % 384 - 192, by omega, by rw [e]; omega⟩
  · have e : pos 2 (n % 384 - 256) = n % 384 := by
      simp only [pos]; rw [if_neg (by omega), if_neg (by omega), if_neg (by omega)]; omega
    exact ⟨2, by omega, n % 384 - 256, by omega, by rw [e]; omega⟩

/-- A position of a pair of blocks is below 384. -/
theorem pos_lt (t l : ℕ) (hl : l < 128) : pos t l < 384 := by
  unfold pos; split_ifs <;> omega

/-- A sum over a row, block by block. -/
theorem sum_blocks (f : ℕ → ℕ → ℝ) (P : ℕ) : ∑ i ∈ range (P * 24), f (i / 24) (i % 24) = ∑ p ∈ range P, ∑ k ∈ range 24, f p k := by
  induction P with
  | zero => simp
  | succ P ih =>
    rw [show (P + 1) * 24 = P * 24 + 24 by ring, sum_range_add, sum_range_succ (fun p => ∑ k ∈ range 24, f p k) P, ih]
    have e : ∑ i ∈ range 24, f ((P * 24 + i) / 24) ((P * 24 + i) % 24) = ∑ k ∈ range 24, f P k := by
      refine sum_congr rfl fun i hi => ?_
      have hi := mem_range.1 hi
      rw [show (P * 24 + i) / 24 = P by omega, show (P * 24 + i) % 24 = i by omega]
    rw [e]

/-- The largest magnitude of a rotated row. -/
def maxU (x : ℕ → ℝ) (h : ℕ → ℕ → ℝ) : ℝ :=
  (range 1536).sup' ⟨0, by simp⟩ fun n => |rotU x h n|

/-- Each rotated entry is at most the maximum. -/
theorem le_maxU (x : ℕ → ℝ) (h : ℕ → ℕ → ℝ) (n : ℕ) (hn : n < 1536) : |rotU x h n| ≤ maxU x h :=
  le_sup' (fun n => |rotU x h n|) (mem_range.2 hn)

/-- The maximum is reached. -/
theorem maxU_eq (x : ℕ → ℝ) (h : ℕ → ℕ → ℝ) : ∃ n < 1536, maxU x h = |rotU x h n| := by
  obtain ⟨n, hn, e⟩ := exists_mem_eq_sup' (s := range 1536) ⟨0, by simp⟩ fun n => |rotU x h n|
  exact ⟨n, mem_range.1 hn, e⟩

/-- The maximum is not negative. -/
theorem maxU_nonneg (x : ℕ → ℝ) (h : ℕ → ℕ → ℝ) : 0 ≤ maxU x h :=
  (abs_nonneg _).trans (le_maxU x h 0 (by norm_num))

/-- A sum of casts of reals, over a row. -/
theorem coe_sum {n : ℕ} (f : ℕ → ℝ) : ∑ i : Fin n, ((f i.val : ℝ) : EReal) = ((∑ i ∈ range n, f i : ℝ) : EReal) := by
  rw [Finset.sum_range]
  induction n with
  | zero => simp
  | succ n ih => rw [Fin.sum_univ_castSucc, Fin.sum_univ_castSucc, EReal.coe_add]; exact congrArg (· + ((f n : ℝ) : EReal)) ih

end Cert.Spec

end
-- ==== Proof.Val.Spec.lean ====
/- The scale and the codes of a rotated row, over the reals, and the facts about them both programs meet. -/
module

public import proofs.«01_k».proof.Proof.Val.Math

@[expose] public section
noncomputable section

namespace Cert.Spec
open Idealize.ShloMosaic Finset

/-- The common factor of the rotation, as the constant's pattern reads. -/
def cR : ℝ := 13698540 / 2 ^ 29

/-- The normalising constant is positive. -/
theorem cR_pos : 0 < cR := by unfold cR; positivity

/-- The pattern of the normalising constant. -/
theorem cR_bits : Ideal.ofBits .f32 0x3CD105EC#32 = ((cR : ℝ) : EReal) := by
  unfold cR
  simp [Ideal.ofBits, Ideal.ieee, -EReal.coe_mul]; norm_num

/-- The pattern of seven. -/
theorem seven_bits : Ideal.ofBits .f32 0x40E00000#32 = ((7 : ℝ) : EReal) := by
  simp [Ideal.ofBits, Ideal.ieee, -EReal.coe_mul]; norm_num

/-- The pattern of minus seven. -/
theorem nseven_bits : Ideal.ofBits .f32 0xC0E00000#32 = ((-7 : ℝ) : EReal) := by
  simp [Ideal.ofBits, Ideal.ieee, -EReal.coe_mul, -EReal.coe_neg]; norm_num

/-- The pattern of minus infinity. -/
theorem ninf_bits : Ideal.ofBits .f32 0xFF800000#32 = (⊥ : EReal) := by
  simp [Ideal.ofBits, Ideal.ieee]

/-- The scale of a rotated row. -/
def scaleR (x : ℕ → ℝ) (h : ℕ → ℕ → ℝ) : ℝ := if maxU x h * cR = 0 then 1 else maxU x h * cR / 7

/-- The scale is positive. -/
theorem scaleR_pos (x : ℕ → ℝ) (h : ℕ → ℕ → ℝ) : 0 < scaleR x h := by
  unfold scaleR
  have := mul_nonneg (maxU_nonneg x h) cR_pos.le
  split
  · exact one_pos
  · rename_i hh
    exact div_pos (lt_of_le_of_ne this (Ne.symm hh)) (by norm_num)

/-- The scale as both programs compute it. -/
theorem scale_eq (x : ℕ → ℝ) (h : ℕ → ℕ → ℝ) :
    (if ((maxU x h * cR : ℝ) : EReal) = 0 then (1 : EReal) else Ideal.div ((maxU x h * cR : ℝ) : EReal) ((7 : ℝ) : EReal))
      = ((scaleR x h : ℝ) : EReal) := by
  unfold scaleR
  by_cases h0 : maxU x h * cR = 0
  · rw [if_pos h0, if_pos (by rw [h0]; exact EReal.coe_zero), EReal.coe_one]
  · rw [if_neg h0, if_neg (fun H => h0 (EReal.coe_eq_zero.1 H)), Ideal.div_coe (by norm_num), ← EReal.coe_mul]
    congr 1; ring

/-- An integer kept between minus seven and seven. -/
def clampZ (n : ℤ) : ℤ := min 7 (max (-7) n)

/-- A clamped integer lies between -7 and 7. -/
theorem clampZ_range (n : ℤ) : -7 ≤ clampZ n ∧ clampZ n ≤ 7 := by unfold clampZ; omega

/-- The clamp of an integer. -/
theorem clamp_coe (n : ℤ) : min ((7 : ℝ) : EReal) (max ((-7 : ℝ) : EReal) (((n : ℤ) : ℝ) : EReal)) = ((clampZ n : ℤ) : ℝ) := by
  unfold clampZ
  rw [← EReal.coe_strictMono.monotone.map_max, ← EReal.coe_strictMono.monotone.map_min]
  congr 1
  push_cast
  rfl

/-- A small integer is its own eight-bit word. -/
theorem fptosi8 (n : ℤ) (h : -7 ≤ n ∧ n ≤ 7) : Ideal.fptosi 8 (((n : ℤ) : ℝ) : EReal) = BitVec.ofInt 8 n := by
  unfold Ideal.fptosi
  rw [Ideal.toIntClamped_coe]
  simp only [Int.floor_intCast, Int.ceil_intCast, ite_self]
  congr 1
  norm_num
  omega

/-- A small integer converts to its word. -/
theorem fptosi32 (n : ℤ) (h : -7 ≤ n ∧ n ≤ 7) : Ideal.fptosi 32 (((n : ℤ) : ℝ) : EReal) = BitVec.ofInt 32 n := by
  unfold Ideal.fptosi
  rw [Ideal.toIntClamped_coe]
  simp only [Int.floor_intCast, Int.ceil_intCast, ite_self]
  congr 1
  norm_num
  omega

/-- A small integer survives its byte. -/
theorem ofInt8_toInt (n : ℤ) (h : -7 ≤ n ∧ n ≤ 7) : (BitVec.ofInt 8 n).toInt = n := by
  obtain ⟨h1, h2⟩ := h
  interval_cases n <;> rfl

/-- The word of a small integer, cut to a byte. -/
theorem trunc8 (n : ℤ) (h : -7 ≤ n ∧ n ≤ 7) : (BitVec.ofInt 32 n).setWidth 8 = BitVec.ofInt 8 n := by
  obtain ⟨h1, h2⟩ := h
  interval_cases n <;> rfl

/-- The code of entry `n` of a rotated row. -/
def codeZ (x : ℕ → ℝ) (h : ℕ → ℕ → ℝ) (n : ℕ) : ℤ :=
  clampZ (Ideal.roundHalfEven (rotU x h n * (cR / scaleR x h)))

/-- A code lies between -7 and 7. -/
theorem codeZ_range (x : ℕ → ℝ) (h : ℕ → ℕ → ℝ) (n : ℕ) : -7 ≤ codeZ x h n ∧ codeZ x h n ≤ 7 := clampZ_range _

end Cert.Spec
end
-- ==== Proof.Val.Ext.lean ====
/- Rows that may hold infinities: when every product of the rotation is finite the row is the real one; when one is not,
   the scale is infinite and every code is zero. -/
module

public import proofs.«01_k».proof.Proof.Val.Spec

@[expose] public section
noncomputable section

namespace Cert.Spec
open Idealize.ShloMosaic Finset

/-- An extended real that is not a number. -/
def Inf (a : EReal) : Prop := a = ⊥ ∨ a = ⊤

/-- A number is not infinite, and what is not infinite is a number. -/
theorem inf_not (a : EReal) : ¬ Inf a ↔ a ≠ ⊥ ∧ a ≠ ⊤ := by unfold Inf; exact not_or

/-- A real is not infinite. -/
theorem inf_coe (a : ℝ) : ¬ Inf (a : EReal) := (inf_not _).2 ⟨EReal.coe_ne_bot a, EReal.coe_ne_top a⟩

/-- What is not infinite is its real. -/
theorem coe_of_not_inf (a : EReal) (h : ¬ Inf a) : a = ((a.toReal : ℝ) : EReal) :=
  (EReal.coe_toReal ((inf_not a).1 h).2 ((inf_not a).1 h).1).symm

/-- The negative of an infinity. -/
theorem inf_neg (a : EReal) (h : Inf a) : Inf (-a) := by
  rcases h with rfl | rfl
  · exact Or.inr EReal.neg_bot
  · exact Or.inl EReal.neg_top

/-- An infinity plus anything stays one. -/
theorem inf_add_left (a b : EReal) (h : Inf a) : Inf (a + b) := by
  rcases h with rfl | rfl
  · exact Or.inl (EReal.bot_add b)
  · by_cases hb : b = ⊥
    · rw [hb]; exact Or.inl (EReal.add_bot _)
    · exact Or.inr (EReal.top_add_of_ne_bot hb)

/-- Anything plus an infinity is one. -/
theorem inf_add_right (a b : EReal) (h : Inf b) : Inf (a + b) := by rw [add_comm]; exact inf_add_left b a h

/-- A sum with an infinite term is infinite. -/
theorem inf_sum {ι : Type} [Fintype ι] [DecidableEq ι] (f : ι → EReal) (i : ι) (h : Inf (f i)) : Inf (∑ k, f k) := by
  rw [← Finset.add_sum_erase _ f (Finset.mem_univ i)]
  exact inf_add_left _ _ h

/-- An infinity times what is not zero. -/
theorem inf_mul_left (a b : EReal) (h : Inf a) (hb : b ≠ 0) : Inf (a * b) := by
  rcases h with rfl | rfl
  · rcases lt_or_gt_of_ne hb with hb | hb
    · exact Or.inr (EReal.bot_mul_of_neg hb)
    · exact Or.inl (EReal.bot_mul_of_pos hb)
  · rcases lt_or_gt_of_ne hb with hb | hb
    · exact Or.inl (EReal.top_mul_of_neg hb)
    · exact Or.inr (EReal.top_mul_of_pos hb)

/-- What is not zero, times an infinity. -/
theorem inf_mul_right (a b : EReal) (h : Inf b) (ha : a ≠ 0) : Inf (a * b) := by rw [mul_comm]; exact inf_mul_left b a h ha

/-- An infinite product has an infinite factor, and neither is zero. -/
theorem inf_mul (a b : EReal) (h : Inf (a * b)) : (Inf a ∨ Inf b) ∧ a ≠ 0 ∧ b ≠ 0 := by
  refine ⟨?_, ?_, ?_⟩
  · by_contra hc
    have hc := not_or.1 hc
    rw [coe_of_not_inf a hc.1, coe_of_not_inf b hc.2, ← EReal.coe_mul] at h
    exact inf_coe _ h
  · rintro rfl
    rw [zero_mul] at h
    exact inf_coe 0 h
  · rintro rfl
    rw [mul_zero] at h
    exact inf_coe 0 h

/-- A finite product is the product of the reals. -/
theorem mul_of_not_inf (a b : EReal) (h : ¬ Inf (a * b)) : a * b = ((a.toReal * b.toReal : ℝ) : EReal) := by
  rw [← EReal.toReal_mul]
  exact coe_of_not_inf _ h

/-- The magnitude of an infinity. -/
theorem inf_abs (a : EReal) (h : Inf a) : max a (-a) = ⊤ := by
  rcases h with rfl | rfl
  · simp
  · simp

/-- A row as reals. -/
def re1 (x : ℕ → EReal) (n : ℕ) : ℝ := (x n).toReal
/-- The small matrix as reals. -/
def re2 (h : ℕ → ℕ → EReal) (j k : ℕ) : ℝ := (h j k).toReal

/-- Every product of the rotation is finite. -/
def Plain (x : ℕ → EReal) (h : ℕ → ℕ → EReal) : Prop := ∀ i < 1536, ∀ j < 24, ¬ Inf (x i * h j (i % 24))

open Classical in
/-- The scale of a row. -/
def scaleE (x : ℕ → EReal) (h : ℕ → ℕ → EReal) : EReal := if Plain x h then ((scaleR (re1 x) (re2 h) : ℝ) : EReal) else ⊤
open Classical in
/-- The code of entry `n` of a row. -/
def codeE (x : ℕ → EReal) (h : ℕ → ℕ → EReal) (n : ℕ) : ℤ := if Plain x h then codeZ (re1 x) (re2 h) n else 0

/-- The scale of a finite row. -/
theorem scaleE_pos {x : ℕ → EReal} {h : ℕ → ℕ → EReal} (p : Plain x h) : scaleE x h = ((scaleR (re1 x) (re2 h) : ℝ) : EReal) := if_pos p
/-- The scale of an infinite row. -/
theorem scaleE_neg {x : ℕ → EReal} {h : ℕ → ℕ → EReal} (p : ¬ Plain x h) : scaleE x h = ⊤ := if_neg p
/-- The codes of a finite row. -/
theorem codeE_pos {x : ℕ → EReal} {h : ℕ → ℕ → EReal} (p : Plain x h) (n : ℕ) : codeE x h n = codeZ (re1 x) (re2 h) n := if_pos p
/-- The codes of an infinite row. -/
theorem codeE_neg {x : ℕ → EReal} {h : ℕ → ℕ → EReal} (p : ¬ Plain x h) (n : ℕ) : codeE x h n = 0 := if_neg p

/-- A code lies between -7 and 7. -/
theorem codeE_range (x : ℕ → EReal) (h : ℕ → ℕ → EReal) (n : ℕ) : -7 ≤ codeE x h n ∧ codeE x h n ≤ 7 := by
  by_cases p : Plain x h
  · rw [codeE_pos p]; exact codeZ_range _ _ _
  · rw [codeE_neg p]; omega

/-- An infinite maximum times the common factor. -/
theorem top_cR : (⊤ : EReal) * ((cR : ℝ) : EReal) = ⊤ := EReal.top_mul_coe_of_pos cR_pos

/-- The scale of an infinite maximum. -/
theorem scale_top : (if (⊤ : EReal) = 0 then (1 : EReal) else Ideal.div (⊤ : EReal) ((7 : ℝ) : EReal)) = ⊤ := by
  rw [if_neg EReal.top_ne_zero, Ideal.div_coe (by norm_num)]
  exact EReal.top_mul_coe_of_pos (by norm_num)

/-- Anything over infinity is zero. -/
theorem div_top (a : EReal) : Ideal.div a ⊤ = 0 := by
  unfold Ideal.div
  rw [if_neg EReal.top_ne_zero, EReal.inv_top, mul_zero]

/-- The code of zero. -/
theorem clamp_zero : min ((7 : ℝ) : EReal) (max ((-7 : ℝ) : EReal) (Ideal.liftRound Ideal.roundHalfEven (0 : EReal))) = (((0 : ℤ) : ℝ) : EReal) := by
  have e : Ideal.roundHalfEven (0 : ℝ) = 0 := by
    simp [Ideal.roundHalfEven]
  rw [← EReal.coe_zero, Ideal.liftRound_coe, e, clamp_coe]
  rfl

end Cert.Spec
end
-- ==== Proof.Val.Rot.lean ====
/- The two rotation tiles the first point stores, over the reals. -/
module

public import proofs.«01_k».proof.Proof.Val.PiecesA
public import proofs.«01_k».proof.Proof.Val.Ext

@[expose] public section
set_option maxRecDepth 16384
noncomputable section

namespace Cert.KernelIdeal.Gen
open Idealize.ShloMosaic Idealize.ShloMosaic.TcCoe Idealize.ShloMosaic.Tactic
open Cert.Spec

/-- A sum in which one term is chosen. -/
theorem sum_sel {n : ℕ} (p : Fin n → BitVec 1) (a : Fin n) (f : Fin n → EReal) (h : ∀ k, p k = if k = a then 1#1 else 0#1) :
    ∑ k, Scalar.select (p k) (f k) (0 : EReal) = f a := by
  have e : ∀ k, Scalar.select (p k) (f k) (0 : EReal) = if k = a then f k else 0 := by
    intro k
    rw [h k]
    by_cases hk : k = a
    · rw [if_pos hk, if_pos hk]; rfl
    · rw [if_neg hk, if_neg hk]; rfl
  simp only [e, Finset.sum_ite_eq', Finset.mem_univ, if_true]

/-- A sum in which no term is chosen. -/
theorem sum_sel_none {n : ℕ} (p : Fin n → BitVec 1) (f : Fin n → EReal) (h : ∀ k, p k = 0#1) :
    ∑ k, Scalar.select (p k) (f k) (0 : EReal) = 0 := by
  refine Finset.sum_eq_zero fun k _ => ?_
  rw [h k]; rfl

/-- The row choice of tile 0. -/
theorem rowSel0 : ∀ (r : Fin 256) (x : Fin 24), IntOp.andi
          (IntOp.andi (IntOp.cmpi CmpIPredicate.sge (IntOp.subi (BitVec.ofNat 32 r.val) 0#32) 0#32)
            (IntOp.cmpi CmpIPredicate.slt (IntOp.subi (BitVec.ofNat 32 r.val) 0#32) 192#32))
          (IntOp.cmpi CmpIPredicate.eq
            (IntOp.remsi ArithUnit.vector (IntOp.addi (IntOp.subi (BitVec.ofNat 32 r.val) 0#32) 24#32) 24#32)
            (BitVec.ofNat 32 x.val)) = if 64 * 0 ≤ r.val ∧ r.val < 64 * 0 + 192 ∧ x.val = (r.val - 64 * 0) % 24 then 1#1 else 0#1 := by
  decide +kernel

/-- The row choice of tile 1. -/
theorem rowSel1 : ∀ (r : Fin 256) (x : Fin 24), IntOp.andi
          (IntOp.andi (IntOp.cmpi CmpIPredicate.sge (IntOp.subi (BitVec.ofNat 32 r.val) 64#32) 0#32)
            (IntOp.cmpi CmpIPredicate.slt (IntOp.subi (BitVec.ofNat 32 r.val) 64#32) 192#32))
          (IntOp.cmpi CmpIPredicate.eq
            (IntOp.remsi ArithUnit.vector (IntOp.addi (IntOp.subi (BitVec.ofNat 32 r.val) 64#32) 24#32) 24#32)
            (BitVec.ofNat 32 x.val)) = if 64 * 1 ≤ r.val ∧ r.val < 64 * 1 + 192 ∧ x.val = (r.val - 64 * 1) % 24 then 1#1 else 0#1 := by
  decide +kernel

/-- The column choice. -/
theorem colSel : ∀ (c : Fin 256) (j : Fin 24), (IntOp.cmpi CmpIPredicate.eq
              (IntOp.remsi ArithUnit.vector
                (Scalar.select (IntOp.cmpi CmpIPredicate.slt (BitVec.ofNat 32 c.val) 192#32) (BitVec.ofNat 32 c.val)
                  (IntOp.subi (BitVec.ofNat 32 c.val) 64#32))
                24#32)
              (BitVec.ofNat 32 j.val)) = if j.val = ccol c.val % 24 then 1#1 else 0#1 := by
  decide +kernel

/-- The row's block, as a word: tile 0. -/
theorem rowBlk0 : ∀ r : Fin 256, IntOp.divsi ArithUnit.vector (IntOp.maxsi (IntOp.subi (BitVec.ofNat 32 r.val) 0#32) 0#32) 24#32
    = BitVec.ofNat 32 ((r.val - 64 * 0) / 24) := by
  decide +kernel
/-- The row's block, as a word: tile 1. -/
theorem rowBlk1 : ∀ r : Fin 256, IntOp.divsi ArithUnit.vector (IntOp.maxsi (IntOp.subi (BitVec.ofNat 32 r.val) 64#32) 0#32) 24#32
    = BitVec.ofNat 32 ((r.val - 64 * 1) / 24) := by
  decide +kernel
/-- The column's block, as a word. -/
theorem colBlk : ∀ c : Fin 256, IntOp.divsi ArithUnit.vector
                    (Scalar.select (IntOp.cmpi CmpIPredicate.slt (BitVec.ofNat 32 c.val) 192#32) (BitVec.ofNat 32 c.val)
                      (IntOp.subi (BitVec.ofNat 32 c.val) 64#32))
                    24#32 = BitVec.ofNat 32 (ccol c.val / 24) := by
  decide +kernel
/-- The parity bit. -/
theorem parW : ∀ a b : Fin 8, IntOp.cmpi CmpIPredicate.eq (IntOp.andi (IntOp.xori (IntOp.xori (IntOp.andi (BitVec.ofNat 32 a.val) (BitVec.ofNat 32 b.val))
      (IntOp.shrsi ArithUnit.vector (IntOp.andi (BitVec.ofNat 32 a.val) (BitVec.ofNat 32 b.val)) 1#32))
      (IntOp.shrsi ArithUnit.vector (IntOp.andi (BitVec.ofNat 32 a.val) (BitVec.ofNat 32 b.val)) 2#32)) 1#32) 1#32
    = if sg b.val a.val = -1 then 1#1 else 0#1 := by
  decide +kernel
/-- The last lanes, as a bit. -/
theorem geW : ∀ c : Fin 256, IntOp.cmpi CmpIPredicate.sge (BitVec.ofNat 32 c.val) 192#32 = if 192 ≤ c.val then 1#1 else 0#1 := by
  decide +kernel
/-- The sign is one or minus one. -/
theorem sg_or (q p : ℕ) : sg q p = -1 ∨ sg q p = 1 := by unfold sg; split <;> simp

/-- A tile's column names a column of a block. -/
theorem ccol_lt (c : ℕ) (h : c < 256) : ccol c < 192 := by unfold ccol; split <;> omega

/-- The small matrix, its indices anywhere. -/
def hE (had : Vec Idealize.ShloMosaic.Ideal S24x24 .f32) (j k : ℕ) : EReal :=
  had (ix2 ⟨j % 24, Nat.mod_lt _ (by decide)⟩ ⟨k % 24, Nat.mod_lt _ (by decide)⟩)

/-- An entry of the small matrix. -/
theorem hE_at (had : Vec Idealize.ShloMosaic.Ideal S24x24 .f32) (j k : Fin 24) : had (ix2 j k) = hE had j.val k.val := by
  unfold hE
  have e : ∀ a : Fin 24, (⟨a.val % 24, Nat.mod_lt _ (by decide)⟩ : Fin 24) = a := fun a => Fin.ext (Nat.mod_eq_of_lt a.isLt)
  rw [e, e]

/-- The entry of a tile before its sign. -/
def magE (h : ℕ → ℕ → EReal) (o r c : ℕ) : EReal :=
  if 64 * o ≤ r ∧ r < 64 * o + 192 then h (ccol c % 24) ((r - 64 * o) % 24) else 0

/-- The entry of a tile. -/
def rotE (h : ℕ → ℕ → EReal) (o r c : ℕ) : EReal :=
  if 64 * o ≤ r ∧ r < 64 * o + 192 then
    (if sg (ccol c / 24) ((r - 64 * o) / 24) * (if o = 1 ∧ 192 ≤ c then -1 else 1) = -1 then -h (ccol c % 24) ((r - 64 * o) % 24) else h (ccol c % 24) ((r - 64 * o) % 24))
  else 0

/-- The magnitudes of tile 0. -/
theorem pay6_at (had : Vec Idealize.ShloMosaic.Ideal S24x24 .f32) (r c : Fin 256) :
    k0_pay6 had (ix2 r c) = magE (hE had) 0 r.val c.val := by
  pointwise [k0_pay6, k0_pay5]
  unfold magE
  by_cases h : 64 * 0 ≤ r.val ∧ r.val < 64 * 0 + 192
  · rw [if_pos h]
    refine (sum_sel _ ⟨(r.val - 64 * 0) % 24, Nat.mod_lt _ (by decide)⟩ _ fun k => ?_).trans ?_
    · rw [rowSel0]
      refine if_congr ?_ rfl rfl
      rw [Fin.ext_iff]
      exact ⟨fun H => H.2.2, fun H => ⟨h.1, h.2, H⟩⟩
    · refine (sum_sel _ ⟨ccol c.val % 24, Nat.mod_lt _ (by decide)⟩ _ fun k => ?_).trans ?_
      · rw [colSel]; exact if_congr ⟨fun H => Fin.ext H, fun H => congrArg Fin.val H⟩ rfl rfl
      · exact hE_at had _ _
  · rw [if_neg h]
    refine (sum_sel_none _ _ fun k => ?_)
    rw [rowSel0, if_neg fun H => h ⟨H.1, H.2.1⟩]

/-- The magnitudes of tile 1. -/
theorem pay10_at (had : Vec Idealize.ShloMosaic.Ideal S24x24 .f32) (r c : Fin 256) :
    k0_pay10 (k0_pay5 had) k0_pay8 (iota .tc S256x24 32 [1] iota_S256x24_d1_w32) k0_pay9 24#32  (ix2 r c)
      = magE (hE had) 1 r.val c.val := by
  pointwise [k0_pay10, k0_pay5, k0_pay8, k0_pay9]
  unfold magE
  by_cases h : 64 * 1 ≤ r.val ∧ r.val < 64 * 1 + 192
  · rw [if_pos h]
    refine (sum_sel _ ⟨(r.val - 64 * 1) % 24, Nat.mod_lt _ (by decide)⟩ _ fun k => ?_).trans ?_
    · rw [rowSel1]
      refine if_congr ?_ rfl rfl
      rw [Fin.ext_iff]
      exact ⟨fun H => H.2.2, fun H => ⟨h.1, h.2, H⟩⟩
    · refine (sum_sel _ ⟨ccol c.val % 24, Nat.mod_lt _ (by decide)⟩ _ fun k => ?_).trans ?_
      · rw [colSel]; exact if_congr ⟨fun H => Fin.ext H, fun H => congrArg Fin.val H⟩ rfl rfl
      · exact hE_at had _ _
  · rw [if_neg h]
    refine (sum_sel_none _ _ fun k => ?_)
    rw [rowSel1, if_neg fun H => h ⟨H.1, H.2.1⟩]

/-- A value or its negative. -/
theorem sel_neg (b : BitVec 1) (v : EReal) : Scalar.select b ((0 : EReal) - v) v = if b = 1#1 then -v else v := by
  by_cases h : b = 1#1
  · rw [h]
    show (0 : EReal) - v = _
    rw [if_pos rfl, zero_sub]
  · have h0 : b = 0#1 := (by decide : ∀ b : BitVec 1, b ≠ 1#1 → b = 0#1) b h
    rw [h0]; rfl

/-- Tile 0. -/
theorem rot0_at (had : Vec Idealize.ShloMosaic.Ideal S24x24 .f32) (r c : Fin 256) :
    k0_pay7 (k0_pay6 had) (iota .tc S256x256 32 [0] iota_S256x256_d0_w32) (ix3 0 r c) = rotE (hE had) 0 r.val c.val := by
  pointwise [k0_pay7]
  rw [pay6_at had, rowBlk0, colBlk, sel_neg]
  unfold rotE magE
  by_cases h : 64 * 0 ≤ r.val ∧ r.val < 64 * 0 + 192
  · rw [if_pos h, if_pos h, parW ⟨(r.val - 64 * 0) / 24, by omega⟩ ⟨ccol c.val / 24, by have := ccol_lt c.val c.isLt; omega⟩]
    simp only [show ¬ ((0 : ℕ) = 1 ∧ 192 ≤ c.val) by omega, if_false, mul_one]
    rcases sg_or (ccol c.val / 24) ((r.val - 64 * 0) / 24) with e | e <;> rw [e] <;> simp
  · rw [if_neg h, if_neg h, neg_zero, ite_self]

/-- Tile 1. -/
theorem rot1_at (had : Vec Idealize.ShloMosaic.Ideal S24x24 .f32) (r c : Fin 256) :
    k0_pay13 (k0_pay10 (k0_pay5 had) k0_pay8 (iota .tc S256x24 32 [1] iota_S256x24_d1_w32) k0_pay9 24#32) (iota .tc S256x256 32 [1] iota_S256x256_d1_w32) k0_pay11 k0_pay12 (ix3 0 r c)
      = rotE (hE had) 1 r.val c.val := by
  pointwise [k0_pay13, k0_pay11, k0_pay12]
  rw [pay10_at had, rowBlk1, colBlk, sel_neg, geW]
  unfold rotE magE
  by_cases h : 64 * 1 ≤ r.val ∧ r.val < 64 * 1 + 192
  · rw [if_pos h, if_pos h, parW ⟨(r.val - 64 * 1) / 24, by omega⟩ ⟨ccol c.val / 24, by have := ccol_lt c.val c.isLt; omega⟩]
    by_cases hc : 192 ≤ c.val
    · simp only [hc, and_self, if_true]
      rcases sg_or (ccol c.val / 24) ((r.val - 64 * 1) / 24) with e | e <;> rw [e] <;> simp [IntOp.xori]
    · simp only [hc, and_false, if_false]
      rcases sg_or (ccol c.val / 24) ((r.val - 64 * 1) / 24) with e | e <;> rw [e] <;> simp [IntOp.xori]
  · rw [if_neg h, if_neg h, neg_zero, ite_self]

end Cert.KernelIdeal.Gen
end
-- ==== Proof.Val.ChunkVal.lean ====
/- One chunk of 256 tokens. -/
module

public import proofs.«01_k».proof.Proof.Val.Rot
public import proofs.«01_k».proof.Proof.Val.Ext
public import Idealize.ShloMosaic.Lib.BitcastFour

@[expose] public section
set_option maxRecDepth 16384
noncomputable section

namespace Cert.KernelIdeal.Gen
open Idealize.ShloMosaic Idealize.ShloMosaic.TcCoe Idealize.ShloMosaic.Tactic
open Cert.Spec

/-- A product with a rotation tile, as a sum. -/
theorem cDot_sum (r x : Vec Idealize.ShloMosaic.Ideal S1x256x256 .bf16) (R : ℕ → ℕ → EReal) (X : ℕ → EReal) (s : ℕ) (a b : Fin 256)
    (hr : ∀ i j : Fin 256, r (ix3 0 i j) = R i.val j.val) (hx : ∀ j : Fin 256, x (ix3 0 a j) = X (s + j.val)) :
    cDot r x (ix2 a b) = ∑ j : Fin 256, X (s + j.val) * R j.val b.val := by
  pointwise [cDot]
  refine Finset.sum_congr rfl fun j _ => ?_
  rw [hr, hx]

/-- A finite product with an entry of a rotation tile is the real one. -/
theorem rot_term {X : ℕ → EReal} {h : ℕ → ℕ → EReal} (hp : Plain X h) (o s j c : ℕ) (ho : o < 2) (hj : j < 256) (hs : s + j < 1536) (hm : s % 24 = 8 * o) :
    X (s + j) * rotE h o j c = ((re1 X (s + j) * rotR (re2 h) o j c : ℝ) : EReal) := by
  unfold rotE rotR
  by_cases hr : 64 * o ≤ j ∧ j < 64 * o + 192
  · rw [if_pos hr, if_pos hr]
    have e : (j - 64 * o) % 24 = (s + j) % 24 := by omega
    rw [e]
    have hf := hp (s + j) hs (ccol c % 24) (Nat.mod_lt _ (by decide))
    have hv := mul_of_not_inf _ _ hf
    have hsg : sg (ccol c / 24) ((j - 64 * o) / 24) * (if o = 1 ∧ 192 ≤ c then -1 else 1) = -1 ∨ sg (ccol c / 24) ((j - 64 * o) / 24) * (if o = 1 ∧ 192 ≤ c then -1 else 1) = 1 := by
      rcases sg_or (ccol c / 24) ((j - 64 * o) / 24) with e | e <;> rw [e] <;> split_ifs <;> simp
    have hc : ((sg (ccol c / 24) ((j - 64 * o) / 24) : ℝ) * (if o = 1 ∧ 192 ≤ c then -1 else 1)) = ((sg (ccol c / 24) ((j - 64 * o) / 24) * (if o = 1 ∧ 192 ≤ c then -1 else 1) : ℤ) : ℝ) := by
      split_ifs <;> simp
    rw [hc]
    rcases hsg with e | e <;> rw [e]
    · rw [if_pos rfl, mul_neg, hv, ← EReal.coe_neg]
      unfold re1 re2
      congr 1
      push_cast
      ring
    · rw [if_neg (by decide), hv]
      unfold re1 re2
      congr 1
      push_cast
      ring
  · rw [if_neg hr, if_neg hr, mul_zero, mul_zero, EReal.coe_zero]

/-- A product of a finite row with a rotation tile. -/
theorem cDot_at (r x : Vec Idealize.ShloMosaic.Ideal S1x256x256 .bf16) (h : ℕ → ℕ → EReal) (X : ℕ → EReal) (hp : Plain X h) (o s : ℕ) (ho : o < 2) (hs : s + 256 ≤ 1536) (hm : s % 24 = 8 * o) (a b : Fin 256)
    (hr : ∀ i j : Fin 256, r (ix3 0 i j) = rotE h o i.val j.val) (hx : ∀ j : Fin 256, x (ix3 0 a j) = X (s + j.val)) :
    cDot r x (ix2 a b) = ((∑ j ∈ Finset.range 256, re1 X (s + j) * rotR (re2 h) o j b.val : ℝ) : EReal) := by
  rw [← coe_sum, cDot_sum r x (rotE h o) X s a b hr hx]
  exact Finset.sum_congr rfl fun j _ => rot_term hp o s j.val b.val ho j.isLt (by omega) hm

/-- The rotated activations of a chunk, in a finite row. -/
theorem cOut_at (ra rb : Vec Idealize.ShloMosaic.Ideal S1x256x256 .bf16) (xa xb : Fin 4 → Vec Idealize.ShloMosaic.Ideal S1x256x256 .bf16)
    (h : ℕ → ℕ → EReal) (X : ℕ → EReal) (hp : Plain X h) (r : Fin 256) (l : Fin 128)
    (hra : ∀ i j : Fin 256, ra (ix3 0 i j) = rotE h 0 i.val j.val)
    (hrb : ∀ i j : Fin 256, rb (ix3 0 i j) = rotE h 1 i.val j.val)
    (hxa : ∀ (g : Fin 4) (j : Fin 256), xa g (ix3 0 r j) = X (384 * g.val + j.val))
    (hxb : ∀ (g : Fin 4) (j : Fin 256), xb g (ix3 0 r j) = X (384 * g.val + 128 + j.val)) (G : Fin 4) (t : Fin 3) :
    cOut ra rb xa xb G t (ix2 r l) = ((rotU (re1 X) (re2 h) (384 * G.val + pos t.val l.val) : ℝ) : EReal) := by
  have dA : ∀ (g : Fin 4) (b : Fin 256), cDot ra (xa g) (ix2 r b) = ((∑ j ∈ Finset.range 256, re1 X (384 * g.val + j) * rotR (re2 h) 0 j b.val : ℝ) : EReal) :=
    fun g b => cDot_at ra (xa g) h X hp 0 (384 * g.val) (by omega) (by omega) (by omega) r b hra (hxa g)
  have dB : ∀ (g : Fin 4) (b : Fin 256), cDot rb (xb g) (ix2 r b) = ((∑ j ∈ Finset.range 256, re1 X (384 * g.val + 128 + j) * rotR (re2 h) 1 j b.val : ℝ) : EReal) :=
    fun g b => cDot_at rb (xb g) h X hp 1 (384 * g.val + 128) (by omega) (by omega) (by omega) r b hrb (hxb g)
  have hlo : ∀ v : FVec Idealize.ShloMosaic.Ideal S256x256 .f32, cLo v (ix2 r l) = v (ix2 r ⟨l.val, by omega⟩) := by
    intro v; pointwise [cLo]
  have hhi : ∀ v : FVec Idealize.ShloMosaic.Ideal S256x256 .f32, cHi v (ix2 r l) = v (ix2 r ⟨128 + l.val, by omega⟩) := by
    intro v; pointwise [cHi]
  have hT : ∀ (g : Fin 4) (t : Fin 3), cT ra rb (xa g) (xb g) t (ix2 r l) = ((groupU (re1 X) (re2 h) g.val (pos t.val l.val) : ℝ) : EReal) := by
    intro g t
    have e := tile_eq (re1 X) (re2 h) g.val l.val l.isLt
    fin_cases t
    · refine Eq.trans ?_ (congrArg (fun z : ℝ => (z : EReal)) e.1)
      show cLo (cDot ra (xa g)) (ix2 r l) + cLo (cDot rb (xb g)) (ix2 r l) = _
      rw [hlo, hlo, dA, dB, ← EReal.coe_add]
    · refine Eq.trans ?_ (congrArg (fun z : ℝ => (z : EReal)) e.2.1)
      show cLo (cDot ra (xa g)) (ix2 r l) - cLo (cDot rb (xb g)) (ix2 r l) = _
      rw [hlo, hlo, dA, dB, ← EReal.coe_sub]
    · refine Eq.trans ?_ (congrArg (fun z : ℝ => (z : EReal)) e.2.2)
      show cHi (cDot ra (xa g)) (ix2 r l) + cHi (cDot rb (xb g)) (ix2 r l) = _
      rw [hhi, hhi, dA, dB, ← EReal.coe_add]
  rw [rotU_group (re1 X) (re2 h) G.val _ G.isLt (pos_lt _ _ l.isLt)]
  obtain ⟨s00, s01, s02, s03, s10, s11, s12, s13, s20, s21, s22, s23, s30, s31, s32, s33⟩ := sg4
  have e0 := hT 0 t
  have e1 := hT 1 t
  have e2 := hT 2 t
  have e3 := hT 3 t
  unfold cOut
  fin_cases G
  · show (cT ra rb (xa 0) (xb 0) t (ix2 r l) + cT ra rb (xa 1) (xb 1) t (ix2 r l)) + (cT ra rb (xa 2) (xb 2) t (ix2 r l) + cT ra rb (xa 3) (xb 3) t (ix2 r l)) = _
    rw [e0, e1, e2, e3, ← EReal.coe_add, ← EReal.coe_add, ← EReal.coe_add]
    refine congrArg (fun z : ℝ => (z : EReal)) ?_
    simp [s00, s01, s02, s03]; ring
  · show (cT ra rb (xa 0) (xb 0) t (ix2 r l) - cT ra rb (xa 1) (xb 1) t (ix2 r l)) + (cT ra rb (xa 2) (xb 2) t (ix2 r l) - cT ra rb (xa 3) (xb 3) t (ix2 r l)) = _
    rw [e0, e1, e2, e3, ← EReal.coe_sub, ← EReal.coe_sub, ← EReal.coe_add]
    refine congrArg (fun z : ℝ => (z : EReal)) ?_
    simp [s10, s11, s12, s13]; ring
  · show (cT ra rb (xa 0) (xb 0) t (ix2 r l) + cT ra rb (xa 1) (xb 1) t (ix2 r l)) - (cT ra rb (xa 2) (xb 2) t (ix2 r l) + cT ra rb (xa 3) (xb 3) t (ix2 r l)) = _
    rw [e0, e1, e2, e3, ← EReal.coe_add, ← EReal.coe_add, ← EReal.coe_sub]
    refine congrArg (fun z : ℝ => (z : EReal)) ?_
    simp [s20, s21, s22, s23]; ring
  · show (cT ra rb (xa 0) (xb 0) t (ix2 r l) - cT ra rb (xa 1) (xb 1) t (ix2 r l)) - (cT ra rb (xa 2) (xb 2) t (ix2 r l) - cT ra rb (xa 3) (xb 3) t (ix2 r l)) = _
    rw [e0, e1, e2, e3, ← EReal.coe_sub, ← EReal.coe_sub, ← EReal.coe_sub]
    refine congrArg (fun z : ℝ => (z : EReal)) ?_
    simp [s30, s31, s32, s33]; ring

/-- The chunk holds an infinity in a row that is not finite. -/
theorem cOut_inf (ra rb : Vec Idealize.ShloMosaic.Ideal S1x256x256 .bf16) (xa xb : Fin 4 → Vec Idealize.ShloMosaic.Ideal S1x256x256 .bf16)
    (h : ℕ → ℕ → EReal) (X : ℕ → EReal) (hp : ¬ Plain X h) (r : Fin 256)
    (hra : ∀ i j : Fin 256, ra (ix3 0 i j) = rotE h 0 i.val j.val)
    (hrb : ∀ i j : Fin 256, rb (ix3 0 i j) = rotE h 1 i.val j.val)
    (hxa : ∀ (g : Fin 4) (j : Fin 256), xa g (ix3 0 r j) = X (384 * g.val + j.val))
    (hxb : ∀ (g : Fin 4) (j : Fin 256), xb g (ix3 0 r j) = X (384 * g.val + 128 + j.val)) :
    ∃ l : Fin 128, Inf (cOut ra rb xa xb 0 0 (ix2 r l)) := by
  have hlo : ∀ (v : FVec Idealize.ShloMosaic.Ideal S256x256 .f32) (l : Fin 128), cLo v (ix2 r l) = v (ix2 r ⟨l.val, by omega⟩) := by
    intro v l; pointwise [cLo]
  unfold Plain at hp
  push Not at hp
  obtain ⟨i, hi, j, hj, hf⟩ := hp
  have hrot : ∀ (o : ℕ) (k : ℕ), 64 * o ≤ k → k < 64 * o + 192 → (k - 64 * o) % 24 = i % 24 → Inf (X i * rotE h o k j) := by
    intro o k h1 h2 h3
    unfold rotE
    have ec : ccol j % 24 = j := by
      unfold ccol
      rw [if_pos (by omega), Nat.mod_eq_of_lt hj]
    rw [if_pos ⟨h1, h2⟩, h3, ec]
    split_ifs
    all_goals first
      | exact hf
      | (rw [mul_neg]; exact inf_neg _ hf)
  refine ⟨⟨j, by omega⟩, ?_⟩
  have hT : ∀ g : Fin 4, g.val = i / 384 → Inf (cT ra rb (xa g) (xb g) 0 (ix2 r ⟨j, by omega⟩)) := by
    intro g hg
    show Inf (cLo (cDot ra (xa g)) (ix2 r ⟨j, by omega⟩) + cLo (cDot rb (xb g)) (ix2 r ⟨j, by omega⟩))
    rw [hlo, hlo, cDot_sum ra (xa g) (rotE h 0) X (384 * g.val) r _ hra (hxa g), cDot_sum rb (xb g) (rotE h 1) X (384 * g.val + 128) r _ hrb (hxb g)]
    by_cases hl : i % 384 < 192
    · refine inf_add_left _ _ (inf_sum _ (⟨i % 384, by omega⟩ : Fin 256) ?_)
      have e : 384 * g.val + i % 384 = i := by omega
      show Inf (X (384 * g.val + i % 384) * rotE h 0 (i % 384) j)
      rw [e]
      exact hrot 0 _ (by omega) (by omega) (by omega)
    · refine inf_add_right _ _ (inf_sum _ (⟨i % 384 - 128, by omega⟩ : Fin 256) ?_)
      have e : 384 * g.val + 128 + (i % 384 - 128) = i := by omega
      show Inf (X (384 * g.val + 128 + (i % 384 - 128)) * rotE h 1 (i % 384 - 128) j)
      rw [e]
      exact hrot 1 _ (by omega) (by omega) (by omega)
  show Inf ((cT ra rb (xa 0) (xb 0) 0 (ix2 r _) + cT ra rb (xa 1) (xb 1) 0 (ix2 r _)) + (cT ra rb (xa 2) (xb 2) 0 (ix2 r _) + cT ra rb (xa 3) (xb 3) 0 (ix2 r _)))
  have hg : i / 384 = 0 ∨ i / 384 = 1 ∨ i / 384 = 2 ∨ i / 384 = 3 := by omega
  rcases hg with hg | hg | hg | hg
  · exact inf_add_left _ _ (inf_add_left _ _ (hT 0 hg.symm))
  · exact inf_add_left _ _ (inf_add_right _ _ (hT 1 hg.symm))
  · exact inf_add_right _ _ (inf_add_left _ _ (hT 2 hg.symm))
  · exact inf_add_right _ _ (inf_add_right _ _ (hT 3 hg.symm))

/-- The chunk's tiles hold the rotated rows `X r`: the real ones where the row is finite, an infinity where it is not. -/
def OK (O : Fin 4 → Fin 3 → FVec Idealize.ShloMosaic.Ideal S256x128 .f32) (h : ℕ → ℕ → EReal) (X : Fin 256 → ℕ → EReal) : Prop :=
  ∀ r : Fin 256, (Plain (X r) h → ∀ G t (l : Fin 128), O G t (ix2 r l) = ((rotU (re1 (X r)) (re2 h) (384 * G.val + pos t.val l.val) : ℝ) : EReal)) ∧
    (¬ Plain (X r) h → ∃ l : Fin 128, Inf (O 0 0 (ix2 r l)))

variable {O : Fin 4 → Fin 3 → FVec Idealize.ShloMosaic.Ideal S256x128 .f32} {h : ℕ → ℕ → EReal} {X : Fin 256 → ℕ → EReal}

/-- The absolute value of a real. -/
theorem absf_coe (v : ℝ) : FloatOps.absf (F := Idealize.ShloMosaic.Ideal) (φ := .f32) (v : EReal) = ((|v| : ℝ) : EReal) := by
  show max (v : EReal) (-(v : EReal)) = _
  rw [← EReal.coe_neg, ← EReal.coe_strictMono.monotone.map_max]
  rfl

/-- The lane-wise maximum, entry by entry. -/
theorem cMax_eq (O : Fin 4 → Fin 3 → FVec Idealize.ShloMosaic.Ideal S256x128 .f32) (i : S256x128.Idx) : cMax O i =
    (max (max (max (max (max (max (max (max (max (max (max
    (FloatOps.absf (O 0 0 i)) (FloatOps.absf (O 0 1 i))) (FloatOps.absf (O 0 2 i))) (FloatOps.absf (O 1 0 i))) (FloatOps.absf (O 1 1 i))) (FloatOps.absf (O 1 2 i))) (FloatOps.absf (O 2 0 i)))
    (FloatOps.absf (O 2 1 i))) (FloatOps.absf (O 2 2 i))) (FloatOps.absf (O 3 0 i))) (FloatOps.absf (O 3 1 i))) (FloatOps.absf (O 3 2 i)) : EReal) := rfl

/-- The lane-wise maximum is at least every tile's magnitude, and is one of them. -/
theorem cMax_at (hO : OK O h X) (r : Fin 256) (hp : Plain (X r) h) (l : Fin 128) :
    (∀ (G : Fin 4) (t : Fin 3), ((|rotU (re1 (X r)) (re2 h) (384 * G.val + pos t.val l.val)| : ℝ) : EReal) ≤ cMax O (ix2 r l)) ∧
    cMax O (ix2 r l) ≤ ((maxU (re1 (X r)) (re2 h) : ℝ) : EReal) := by
  have hb : ∀ (G : Fin 4) (t : Fin 3), ((|rotU (re1 (X r)) (re2 h) (384 * G.val + pos t.val l.val)| : ℝ) : EReal) ≤ ((maxU (re1 (X r)) (re2 h) : ℝ) : EReal) :=
    fun G t => EReal.coe_le_coe_iff.2 (le_maxU _ _ _ (by have := pos_lt t.val l.val l.isLt; omega))
  rw [cMax_eq]
  simp only [(hO r).1 hp _ _ l, absf_coe]
  refine ⟨fun G t => ?_, ?_⟩
  · generalize hf : (fun (G : Fin 4) (t : Fin 3) => ((|rotU (re1 (X r)) (re2 h) (384 * G.val + pos t.val l.val)| : ℝ) : EReal)) = f
    have hle : ∀ G t, ((|rotU (re1 (X r)) (re2 h) (384 * (G : Fin 4).val + pos (t : Fin 3).val l.val)| : ℝ) : EReal) = f G t := fun _ _ => by rw [← hf]
    simp only [hle]
    fin_cases G <;> fin_cases t <;> simp [le_max_iff]
  · simp only [max_le_iff]
    exact ⟨⟨⟨⟨⟨⟨⟨⟨⟨⟨⟨hb 0 0, hb 0 1⟩, hb 0 2⟩, hb 1 0⟩, hb 1 1⟩, hb 1 2⟩, hb 2 0⟩, hb 2 1⟩, hb 2 2⟩, hb 3 0⟩, hb 3 1⟩, hb 3 2⟩

/-- The lane-wise maximum at an infinity. -/
theorem cMax_inf (O : Fin 4 → Fin 3 → FVec Idealize.ShloMosaic.Ideal S256x128 .f32) (i : S256x128.Idx) (hi : Inf (O 0 0 i)) : cMax O i = (⊤ : EReal) := by
  rw [cMax_eq, show FloatOps.absf (O 0 0 i) = (⊤ : EReal) from inf_abs _ hi]
  simp only [max_top_left]

/-- The largest magnitude with the common factor. -/
theorem cAmax_at (hO : OK O h X) (r : Fin 256) (hp : Plain (X r) h) : cAmax O (ix2 r 0) = ((maxU (re1 (X r)) (re2 h) * cR : ℝ) : EReal) := by
  pointwise [cAmax]
  rw [cR_bits, EReal.coe_mul, ninf_bits]
  congr 1
  apply le_antisymm
  · rw [Finset.fold_max_le]
    exact ⟨bot_le, fun l _ => (cMax_at hO r hp l).2⟩
  · obtain ⟨n, hn, e⟩ := maxU_eq (re1 (X r)) (re2 h)
    obtain ⟨G, hG, t, ht, l, hl, e'⟩ := pos_surj n hn
    rw [e, e', Finset.le_fold_max]
    exact Or.inr ⟨⟨l, hl⟩, Finset.mem_univ _, (cMax_at hO r hp ⟨l, hl⟩).1 ⟨G, hG⟩ ⟨t, ht⟩⟩

/-- The largest magnitude of a row that is not finite. -/
theorem cAmax_inf (hO : OK O h X) (r : Fin 256) (hp : ¬ Plain (X r) h) : cAmax O (ix2 r 0) = (⊤ : EReal) := by
  pointwise [cAmax]
  rw [cR_bits, ninf_bits]
  refine Eq.trans (congrArg (· * ((cR : ℝ) : EReal)) ?_) top_cR
  obtain ⟨l, hl⟩ := (hO r).2 hp
  refine top_le_iff.1 ?_
  rw [Finset.le_fold_max]
  exact Or.inr ⟨l, Finset.mem_univ _, (cMax_inf O _ hl).ge⟩

/-- The scale of a token. -/
theorem cScale_at (hO : OK O h X) (r : Fin 256) : cScale O (ix2 r 0) = scaleE (X r) h := by
  pointwise [cScale]
  by_cases hp : Plain (X r) h
  · rw [cAmax_at hO r hp, seven_bits, scale_eq, scaleE_pos hp]
  · rw [cAmax_inf hO r hp, seven_bits, scale_top, scaleE_neg hp]

/-- The common factor over the scale. -/
theorem cInv_at (hO : OK O h X) (r : Fin 256) (hp : Plain (X r) h) : cInv O (ix2 r 0) = ((cR / scaleR (re1 (X r)) (re2 h) : ℝ) : EReal) := by
  pointwise [cInv]
  rw [cScale_at hO, scaleE_pos hp, cR_bits, Ideal.div_coe (scaleR_pos _ _).ne', ← EReal.coe_mul]
  congr 1; ring

/-- The common factor over an infinite scale. -/
theorem cInv_inf (hO : OK O h X) (r : Fin 256) (hp : ¬ Plain (X r) h) : cInv O (ix2 r 0) = (0 : EReal) := by
  pointwise [cInv]
  rw [cScale_at hO, scaleE_neg hp, div_top]

/-- The codes of a tile. -/
theorem cQ8_at (hO : OK O h X) (G : Fin 4) (t : Fin 3) (r : Fin 256) (l : Fin 128) :
    cQ8 O G t (ix2 r l) = BitVec.ofInt 8 (codeE (X r) h (384 * G.val + pos t.val l.val)) := by
  pointwise [cQ8]
  by_cases hp : Plain (X r) h
  · rw [cInv_at hO r hp, (hO r).1 hp, seven_bits, nseven_bits, ← EReal.coe_mul, Ideal.liftRound_coe, clamp_coe, codeE_pos hp]
    exact fptosi8 _ (clampZ_range _)
  · rw [cInv_inf hO r hp, mul_zero, seven_bits, nseven_bits, clamp_zero, codeE_neg hp]
    exact fptosi8 0 (by decide)

/-- A word read back byte by byte. -/
theorem byte_back (W : IVec S64x128 32) (v : IVec S256x128 8) (r : Fin 256) (l l' : Fin 128)
    (hW : W (ix2 (⟨r.val / 4, by omega⟩ : Fin 64) l) = bitcast S64x128 32 v bitcasts_S256x128_w8_S64x128_w32 (ix2 (⟨r.val / 4, by omega⟩ : Fin 64) l')) :
    bitcast S256x128 8 W bitcasts_S64x128_w32_S256x128_w8 (ix2 r l) = v (ix2 r l') := by
  apply BitVec.eq_of_getLsbD_eq
  intro q hq
  rw [bitcast_getLsbD _ _ _ q hq (by decide)]
  have hrow : S256x128.row (ix2 r l) = r.val := rfl
  have hs : ∀ hp, bitcasts_S64x128_w32_S256x128_w8.srcIdx (ix2 r l) ((S256x128.row (ix2 r l) * 8 + q) / 32) hp = ix2 (⟨r.val / 4, by omega⟩ : Fin 64) l := by
    intro hp
    funext c
    match c with
    | ⟨0, _⟩ => exact Fin.ext ((bitcasts_S64x128_w32_S256x128_w8.srcIdx_row _ _ _ ⟨0, Nat.zero_lt_two⟩ rfl).trans (by show (r.val * 8 + q) / 32 = r.val / 4; omega))
    | ⟨1, _⟩ => exact Fin.ext (bitcasts_S64x128_w32_S256x128_w8.srcIdx_other _ _ _ ⟨1, by decide⟩ (by decide))
  rw [hs, hW, hrow]
  refine (bitcast_8_32_getLsbD_ix2 (R := 256) (r := 64) (n := 128) v bitcasts_S256x128_w8_S64x128_w32 ⟨r.val / 4, by omega⟩ l' ((r.val * 8 + q) % 32) (Nat.mod_lt _ (by decide)) r
    (by show r.val = 4 * (r.val / 4) + (r.val * 8 + q) % 32 / 8; omega)).trans ?_
  exact congrArg (fun z => (v (ix2 r l')).getLsbD z) (by omega)

/-- The lane bit. -/
theorem laneW : ∀ l : Fin 128, IntOp.cmpi CmpIPredicate.slt (BitVec.ofNat 32 l.val) 64#32 = if l.val < 64 then 1#1 else 0#1 := by
  decide +kernel

/-- The stored codes stand at their columns. -/
theorem cV_at (hO : OK O h X) (G : Fin 4) (t : Fin 3) (r : Fin 256) (l : Fin 128) :
    cV O G t (ix2 r l) = BitVec.ofInt 8 (codeE (X r) h (384 * G.val + 128 * t.val + l.val)) := by
  unfold cV
  fin_cases t
  · refine (byte_back (cW O G 0) (cQ8 O G 0) r l l rfl).trans ?_
    rw [cQ8_at hO]
    rfl
  · by_cases hl : l.val < 64
    · refine (byte_back (cW O G 1) (cQ8 O G 2) r l l ?_).trans ?_
      · pointwise [cW, cRot, k0_pay41]
        rw [laneW, if_pos hl]; rfl
      · rw [cQ8_at hO]
        congr 2
        simp [pos, hl]; omega
    · refine (byte_back (cW O G 1) (cQ8 O G 1) r l ⟨(l.val + 128 - 64) % 128, by omega⟩ ?_).trans ?_
      · pointwise [cW, cRot, k0_pay41]
        rw [laneW, if_neg hl]; rfl
      · rw [cQ8_at hO]
        congr 2
        simp [pos]; omega
  · by_cases hl : l.val < 64
    · refine (byte_back (cW O G 2) (cQ8 O G 1) r l ⟨(l.val + 128 - 64) % 128, by omega⟩ ?_).trans ?_
      · pointwise [cW, cRot, k0_pay41]
        rw [laneW, if_pos hl]; rfl
      · rw [cQ8_at hO]
        congr 2
        simp [pos]; omega
    · refine (byte_back (cW O G 2) (cQ8 O G 2) r l l ?_).trans ?_
      · pointwise [cW, cRot, k0_pay41]
        rw [laneW, if_neg hl]; rfl
      · rw [cQ8_at hO]
        congr 2
        simp [pos, hl]; omega

/-- The stored codes in the block's shape. -/
theorem cCode_at (hO : OK O h X) (G : Fin 4) (t : Fin 3) (r : Fin 256) (l : Fin 128) :
    cCode O G t (ix3 0 r l) = BitVec.ofInt 8 (codeE (X r) h (384 * G.val + 128 * t.val + l.val)) := by
  pointwise [cCode]
  exact cV_at hO G t r l

/-- One tile's codes as floats. -/
theorem cA8t_at (hO : OK O h X) (G : Fin 4) (t : Fin 3) (r : Fin 256) (l : Fin 128) :
    cA8t O G t (ix2 r l) = (((codeE (X r) h (384 * G.val + 128 * t.val + l.val) : ℤ) : ℝ) : EReal) := by
  pointwise [cA8t]
  rw [cV_at hO]
  show (((BitVec.ofInt 8 _).toInt : ℝ) : EReal) = _
  rw [ofInt8_toInt _ (codeE_range _ _ _)]

/-- Both branches of a choice. -/
theorem dite_at {α : Sort _} {p : Prop} [Decidable p] {a : p → α} {b : ¬ p → α} {v : α} (h1 : ∀ h, a h = v) (h2 : ∀ h, b h = v) :
    dite p a b = v := by
  by_cases h : p
  · rw [dif_pos h, h1]
  · rw [dif_neg h, h2]

/-- The chunk's codes as floats. -/
theorem cA8_at (hO : OK O h X) (r : Fin 256) (n : Fin 1536) :
    cA8 O (ix2 r n) = (((codeE (X r) h n.val : ℤ) : ℝ) : EReal) := by
  pointwise [cA8]
  iterate 11
    refine dite_at (fun hh => ?_) (fun hh => ?_)
    · rw [cA8t_at hO]
      exact congrArg (fun z : ℕ => (((codeE (X r) h z : ℤ) : ℝ) : EReal)) (by simp <;> omega)
  rw [cA8t_at hO]
  exact congrArg (fun z : ℕ => (((codeE (X r) h z : ℤ) : ℝ) : EReal)) (by simp <;> omega)

/-- The product of the weights with the codes. -/
theorem cAcc_at (hO : OK O h X) (w : Vec Idealize.ShloMosaic.Ideal S576x1536 .fp8e4m3) (wR : ℕ → ℝ) (o : Fin 576)
    (hw : ∀ n : Fin 1536, w (ix2 o n) = ((wR n.val : ℝ) : EReal)) (r : Fin 256) :
    cAcc O w (ix2 o r) = ((∑ n ∈ Finset.range 1536, wR n * (codeE (X r) h n : ℝ) : ℝ) : EReal) := by
  rw [← coe_sum]
  have e : cAcc O w (ix2 o r) = ∑ n : Fin 1536, w (ix2 o n) * cA8 O (ix2 r n) := by
    unfold cAcc
    generalize cA8 O = A
    pointwise
  rw [e]
  refine Finset.sum_congr rfl fun n _ => ?_
  rw [hw, cA8_at hO, ← EReal.coe_mul]

/-- The scales as a row. -/
theorem cLine_at (hO : OK O h X) (r : Fin 256) : cLine O (ix2 0 r) = scaleE (X r) h := by
  unfold cLine
  have e : k0_pay143 (cScale O) (ix2 0 r) = cScale O (ix2 r 0) := by
    generalize cScale O = S
    pointwise [k0_pay143]
    split_ifs
    all_goals first
      | rfl
      | exact congrArg (fun z => S (ix2 z 0)) (Fin.ext (by show 128 + (r.val - 128) = r.val; omega))
  rw [e, cScale_at hO]

/-- The second result's entry. -/
def yR (wR : ℕ → ℝ) (ws : EReal) (x : ℕ → EReal) (h : ℕ → ℕ → EReal) : EReal :=
  ((∑ n ∈ Finset.range 1536, wR n * (codeE x h n : ℝ) : ℝ) : EReal) * scaleE x h * ws

/-- An entry of the first half of a chunk's output. -/
theorem cY0_at (hO : OK O h X) (w : Vec Idealize.ShloMosaic.Ideal S576x1536 .fp8e4m3) (wsc : Vec Idealize.ShloMosaic.Ideal S576x128 .f32) (wR : ℕ → ℝ) (ws : EReal) (o : Fin 576)
    (hw : ∀ n : Fin 1536, w (ix2 o n) = ((wR n.val : ℝ) : EReal)) (hs : ∀ l : Fin 128, wsc (ix2 o l) = ws) (l : Fin 128) :
    cY0 O w wsc (ix3 0 o l) = yR wR ws (X ⟨l.val, by omega⟩) h := by
  have e : cY0 O w wsc (ix3 0 o l) = cAcc O w (ix2 o ⟨l.val, by omega⟩) * cLine O (ix2 0 ⟨l.val, by omega⟩) * wsc (ix2 o l) := by
    unfold cY0
    generalize cAcc O w = A
    generalize cLine O = L
    pointwise [cY]
  rw [e, cAcc_at hO w wR o hw, cLine_at hO, hs]
  rfl

/-- An entry of the second half of a chunk's output. -/
theorem cY1_at (hO : OK O h X) (w : Vec Idealize.ShloMosaic.Ideal S576x1536 .fp8e4m3) (wsc : Vec Idealize.ShloMosaic.Ideal S576x128 .f32) (wR : ℕ → ℝ) (ws : EReal) (o : Fin 576)
    (hw : ∀ n : Fin 1536, w (ix2 o n) = ((wR n.val : ℝ) : EReal)) (hs : ∀ l : Fin 128, wsc (ix2 o l) = ws) (l : Fin 128) :
    cY1 O w wsc (ix3 0 o l) = yR wR ws (X ⟨128 + l.val, by omega⟩) h := by
  have e : cY1 O w wsc (ix3 0 o l) = cAcc O w (ix2 o ⟨128 + l.val, by omega⟩) * cLine O (ix2 0 ⟨128 + l.val, by omega⟩) * wsc (ix2 o l) := by
    unfold cY1
    generalize cAcc O w = A
    generalize cLine O = L
    pointwise [cY]
  rw [e, cAcc_at hO w wR o hw, cLine_at hO, hs]
  rfl

/-- One chunk's scales put into the row of the batch entry. -/
theorem cRow_at (hO : OK O h X) (b : Fin 8) (v : Vec Idealize.ShloMosaic.Ideal S8x256 .f32) (b' : Fin 8) (r : Fin 256) :
    cRow (BitVec.ofNat 32 b.val) O v (ix2 b' r) = if b' = b then scaleE (X r) h else v (ix2 b' r) := by
  have e : cRow (BitVec.ofNat 32 b.val) O v (ix2 b' r)
      = Scalar.select (IntOp.cmpi CmpIPredicate.eq (BitVec.ofNat 32 b'.val) (BitVec.ofNat 32 b.val)) (cLine O (ix2 0 r)) (v (ix2 b' r)) := by
    unfold cRow cLine
    unfold k0_pay144
    generalize k0_pay143 (cScale O) = L
    pointwise
  rw [e, cLine_at hO, (by decide +kernel : ∀ a b : Fin 8, IntOp.cmpi CmpIPredicate.eq (BitVec.ofNat 32 a.val) (BitVec.ofNat 32 b.val) = if a = b then 1#1 else 0#1) b' b]
  by_cases hb : b' = b
  · rw [if_pos hb, if_pos hb]; rfl
  · rw [if_neg hb, if_neg hb]; rfl

end Cert.KernelIdeal.Gen
end
-- ==== Proof.Val.Scr.lean ====
/- What the first point leaves in the three scratch buffers, over the reals. -/
module

public import proofs.«01_k».proof.Proof.Val.ChunkVal

@[expose] public section
set_option maxRecDepth 16384
noncomputable section

namespace Cert.KernelIdeal.Gen
open Idealize.ShloMosaic Idealize.ShloMosaic.TcCoe Idealize.ShloMosaic.Tactic
open Cert.Spec

/-- A four-bit field read signed. -/
def nibZ (v : ℕ) : ℤ := if 8 ≤ v then (v : ℤ) - 16 else v

/-- The low nibble by shifts, for each byte. -/
theorem nib_lo' : ∀ b : Fin 256, (IntOp.shrsi ArithUnit.vector (IntOp.shli ArithUnit.vector (BitVec.setWidth 32 (BitVec.ofNat 8 b.val)) 28#32) 28#32).toInt
    = nibZ ((BitVec.ofNat 8 b.val).toNat % 16) := by decide +kernel
/-- The high nibble by shifts, for each byte. -/
theorem nib_hi' : ∀ b : Fin 256, (IntOp.shrsi ArithUnit.vector (IntOp.shli ArithUnit.vector (BitVec.setWidth 32 (BitVec.ofNat 8 b.val)) 24#32) 28#32).toInt
    = nibZ ((BitVec.ofNat 8 b.val).toNat / 16) := by decide +kernel

/-- A byte is the byte of its number. -/
theorem bv8_back (b : BitVec 8) : BitVec.ofNat 8 b.toNat = b := BitVec.eq_of_toNat_eq (by simp)
/-- The low field, by shifts. -/
theorem nib_lo (b : BitVec 8) : (IntOp.shrsi ArithUnit.vector (IntOp.shli ArithUnit.vector (BitVec.setWidth 32 b) 28#32) 28#32).toInt
    = nibZ (b.toNat % 16) := by
  have e := nib_lo' b.toFin
  rwa [show BitVec.ofNat 8 b.toFin.val = b from bv8_back _] at e
/-- The high field, by shifts. -/
theorem nib_hi (b : BitVec 8) : (IntOp.shrsi ArithUnit.vector (IntOp.shli ArithUnit.vector (BitVec.setWidth 32 b) 24#32) 28#32).toInt
    = nibZ (b.toNat / 16) := by
  have e := nib_hi' b.toFin
  rwa [show BitVec.ofNat 8 b.toFin.val = b from bv8_back _] at e

/-- The word of a power of two, for each exponent. -/
theorem pw_fields : ∀ e : Fin 127, (IntOp.shli ArithUnit.vector (IntOp.maxsi (IntOp.subi (127#32) (BitVec.setWidth 32 (BitVec.ofNat 8 e.val))) 0#32) 23#32)
    = BitVec.ofNat 32 ((127 - e.val) * 2 ^ 23) := by decide +kernel

/-- The fields of that word. -/
theorem pw_ex : ∀ e : Fin 127, ((BitVec.ofNat 32 ((127 - e.val) * 2 ^ 23)).extractLsb' (8 + 23) 1 == 1#1) = false ∧
    ((BitVec.ofNat 32 ((127 - e.val) * 2 ^ 23)).extractLsb' 23 8).toNat = 127 - e.val ∧
    ((BitVec.ofNat 32 ((127 - e.val) * 2 ^ 23)).extractLsb' 0 23).toNat = 0 := by decide +kernel

/-- A power of two built from its exponent field. -/
theorem pw_bits (e : Fin 127) : Ideal.ofBits .f32 (BitVec.ofNat 32 ((127 - e.val) * 2 ^ 23)) = (((2 : ℝ) ^ (-(e.val : ℤ)) : ℝ) : EReal) := by
  obtain ⟨h1, h2, h3⟩ := pw_ex e
  show Ideal.ieee 8 23 (BitVec.ofNat 32 ((127 - e.val) * 2 ^ 23)) = _
  unfold Ideal.ieee
  simp only [h1, h2, h3]
  rw [if_neg (by omega), if_neg (by omega)]
  refine congrArg (fun z : ℝ => (z : EReal)) ?_
  simp only [Bool.false_eq_true, if_false, one_mul, add_zero]
  rw [Nat.cast_pow, Nat.cast_ofNat, ← zpow_natCast, ← zpow_add₀ (by norm_num)]
  congr 1
  have := e.isLt
  push_cast [Nat.cast_sub (show e.val ≤ 127 by omega)]
  ring

/-- The exponents' powers. -/
theorem pay14_at (x3 : Vec Idealize.ShloMosaic.Ideal S12x576 .i8) (hge : ∀ k o, (x3 (ix2 k o)).toNat ≤ 126) (a : Fin 576) (k : Fin 12) :
    k0_pay14 x3 (ix2 a k) = (((2 : ℝ) ^ (-((x3 (ix2 k a)).toNat : ℤ)) : ℝ) : EReal) := by
  have e := pw_bits ⟨(x3 (ix2 k a)).toNat, by have := hge k a; omega⟩
  rw [← pw_fields, show BitVec.ofNat 8 (⟨(x3 (ix2 k a)).toNat, by have := hge k a; omega⟩ : Fin 127).val = x3 (ix2 k a) from bv8_back _] at e
  rw [← e]
  pointwise [k0_pay14]

/-- The weight of output channel `o` and input column `n`. -/
def wRk (x2 : Vec Idealize.ShloMosaic.Ideal S576x768 .i8) (x3 : Vec Idealize.ShloMosaic.Ideal S12x576 .i8) (o : Fin 576) (n : ℕ) : ℝ :=
  (nibZ (if n < 768 then (x2 (ix2 o ⟨n % 768, Nat.mod_lt _ (by decide)⟩)).toNat % 16 else (x2 (ix2 o ⟨n % 768, Nat.mod_lt _ (by decide)⟩)).toNat / 16) : ℝ)
    * (2 : ℝ) ^ (-((x3 (ix2 ⟨n / 128 % 12, Nat.mod_lt _ (by decide)⟩ o)).toNat : ℤ))

/-- The rotation scratch. -/
def rotV (x1 : Vec Idealize.ShloMosaic.Ideal S24x24 .f32) : Vec Idealize.ShloMosaic.Ideal S2x256x256 .bf16 :=
  fun j => rotE (hE x1) (j 0).val (j 1).val (j 2).val
/-- The weight scratch. -/
def wV (x2 : Vec Idealize.ShloMosaic.Ideal S576x768 .i8) (x3 : Vec Idealize.ShloMosaic.Ideal S12x576 .i8) : Vec Idealize.ShloMosaic.Ideal S576x1536 .fp8e4m3 :=
  fun j => ((wRk x2 x3 (j 0) (j 1).val : ℝ) : EReal)
/-- The channel-scale scratch. -/
def wscV (x4 : Vec Idealize.ShloMosaic.Ideal S1x576 .f32) : Vec Idealize.ShloMosaic.Ideal S576x128 .f32 :=
  fun j => x4 (ix2 0 (j 0 : Fin 576))

/-- The exponents are at most 126. -/
abbrev GeOk (x3 : Vec Idealize.ShloMosaic.Ideal S12x576 .i8) : Prop := ∀ k o, (x3 (ix2 k o)).toNat ≤ 126

/-- The stores of the rotation tiles. -/
theorem rot_canon (x1 : Vec Idealize.ShloMosaic.Ideal S24x24 .f32) (y : S2x256x256.Idx) :
    View.canon (pcsRot x1) y = rotV x1 y := by
  unfold pcsRot
  canon_tiles x h
  · obtain ⟨a, b, c, rfl⟩ : ∃ (a : Fin 1) (b c : Fin 256), x = ix3 a b c := ⟨x 0, x 1, x 2, by funext i; fin_cases i <;> rfl⟩
    obtain rfl : a = 0 := Subsingleton.elim _ _
    rw [rot1_at x1]
    unfold rotV
    rw [h0, h1, h2]
    rfl
  · obtain ⟨a, b, c, rfl⟩ : ∃ (a : Fin 1) (b c : Fin 256), x = ix3 a b c := ⟨x 0, x 1, x 2, by funext i; fin_cases i <;> rfl⟩
    obtain rfl : a = 0 := Subsingleton.elim _ _
    rw [rot0_at x1]
    unfold rotV
    rw [h0, h1, h2]
    rfl

/-- A weight from a low nibble. -/
theorem cWt_lo_at (pw : FVec Idealize.ShloMosaic.Ideal S576x1 .bf16) (wp : Vec Idealize.ShloMosaic.Ideal S576x128 .i8) (a : Fin 576) (b : Fin 128) :
    cWt 28#32 pw wp (ix2 a b) = (((nibZ ((wp (ix2 a b)).toNat % 16) : ℤ) : ℝ) : EReal) * pw (ix2 a 0) := by
  rw [← nib_lo]
  pointwise [cWt]
  rfl
/-- A weight from a high nibble. -/
theorem cWt_hi_at (pw : FVec Idealize.ShloMosaic.Ideal S576x1 .bf16) (wp : Vec Idealize.ShloMosaic.Ideal S576x128 .i8) (a : Fin 576) (b : Fin 128) :
    cWt 24#32 pw wp (ix2 a b) = (((nibZ ((wp (ix2 a b)).toNat / 16) : ℤ) : ℝ) : EReal) * pw (ix2 a 0) := by
  rw [← nib_hi]
  pointwise [cWt]
  rfl

/-- A stored tile of low fields. -/
theorem wt_lo (x2 : Vec Idealize.ShloMosaic.Ideal S576x768 .i8) (x3 : Vec Idealize.ShloMosaic.Ideal S12x576 .i8) (hge : GeOk x3)
    (wp : Fin 6 → Vec Idealize.ShloMosaic.Ideal S576x128 .i8) (hwp : ∀ g a l, wp g (ix2 a l) = x2 (ix2 a ⟨128 * g.val + l.val, by omega⟩))
    (g : Fin 6) (pw : FVec Idealize.ShloMosaic.Ideal S576x1 .bf16) (hpw : ∀ a, pw (ix2 a 0) = k0_pay14 x3 (ix2 a ⟨g.val, by omega⟩))
    (x : S576x128.Idx) (y : S576x1536.Idx) (h0 : (y 0).val = (x 0).val) (h1 : (y 1).val = 128 * g.val + (x 1).val) :
    cWt 28#32 pw (wp g) x = wV x2 x3 y := by
  obtain ⟨a, b, rfl⟩ : ∃ (a : Fin 576) (b : Fin 128), x = ix2 a b := ⟨x 0, x 1, by funext i; fin_cases i <;> rfl⟩
  obtain ⟨a', n, rfl⟩ : ∃ (a : Fin 576) (b : Fin 1536), y = ix2 a b := ⟨y 0, y 1, by funext i; fin_cases i <;> rfl⟩
  obtain rfl : a' = a := Fin.ext h0
  replace h1 : n.val = 128 * g.val + b.val := h1
  rw [cWt_lo_at, hwp, hpw, pay14_at x3 hge, ← EReal.coe_mul]
  show _ = ((wRk x2 x3 a' n.val : ℝ) : EReal)
  unfold wRk
  have e1 : (⟨n.val % 768, Nat.mod_lt _ (by decide)⟩ : Fin 768) = ⟨128 * g.val + b.val, by omega⟩ := Fin.ext (by show n.val % 768 = 128 * g.val + b.val; omega)
  have e2 : (⟨n.val / 128 % 12, Nat.mod_lt _ (by decide)⟩ : Fin 12) = ⟨g.val, by omega⟩ := Fin.ext (by show n.val / 128 % 12 = g.val; omega)
  rw [if_pos (by omega), e1, e2]

/-- A stored tile of high fields. -/
theorem wt_hi (x2 : Vec Idealize.ShloMosaic.Ideal S576x768 .i8) (x3 : Vec Idealize.ShloMosaic.Ideal S12x576 .i8) (hge : GeOk x3)
    (wp : Fin 6 → Vec Idealize.ShloMosaic.Ideal S576x128 .i8) (hwp : ∀ g a l, wp g (ix2 a l) = x2 (ix2 a ⟨128 * g.val + l.val, by omega⟩))
    (g : Fin 6) (pw : FVec Idealize.ShloMosaic.Ideal S576x1 .bf16) (hpw : ∀ a, pw (ix2 a 0) = k0_pay14 x3 (ix2 a ⟨6 + g.val, by omega⟩))
    (x : S576x128.Idx) (y : S576x1536.Idx) (h0 : (y 0).val = (x 0).val) (h1 : (y 1).val = 768 + 128 * g.val + (x 1).val) :
    cWt 24#32 pw (wp g) x = wV x2 x3 y := by
  obtain ⟨a, b, rfl⟩ : ∃ (a : Fin 576) (b : Fin 128), x = ix2 a b := ⟨x 0, x 1, by funext i; fin_cases i <;> rfl⟩
  obtain ⟨a', n, rfl⟩ : ∃ (a : Fin 576) (b : Fin 1536), y = ix2 a b := ⟨y 0, y 1, by funext i; fin_cases i <;> rfl⟩
  obtain rfl : a' = a := Fin.ext h0
  replace h1 : n.val = 768 + 128 * g.val + b.val := h1
  rw [cWt_hi_at, hwp, hpw, pay14_at x3 hge, ← EReal.coe_mul]
  show _ = ((wRk x2 x3 a' n.val : ℝ) : EReal)
  unfold wRk
  have e1 : (⟨n.val % 768, Nat.mod_lt _ (by decide)⟩ : Fin 768) = ⟨128 * g.val + b.val, by omega⟩ := Fin.ext (by show n.val % 768 = 128 * g.val + b.val; omega)
  have e2 : (⟨n.val / 128 % 12, Nat.mod_lt _ (by decide)⟩ : Fin 12) = ⟨6 + g.val, by omega⟩ := Fin.ext (by show n.val / 128 % 12 = 6 + g.val; omega)
  rw [if_neg (by omega), e1, e2]

/-- The stores of the weights. -/
theorem w_canon (x2 : Vec Idealize.ShloMosaic.Ideal S576x768 .i8) (x3 : Vec Idealize.ShloMosaic.Ideal S12x576 .i8) (hge : GeOk x3)
    (wp : Fin 6 → Vec Idealize.ShloMosaic.Ideal S576x128 .i8) (hwp : ∀ g a l, wp g (ix2 a l) = x2 (ix2 a ⟨128 * g.val + l.val, by omega⟩)) (y : S576x1536.Idx) :
    View.canon (pcsW wp x3) y = wV x2 x3 y := by
  unfold pcsW
  canon_tiles x h
  · exact wt_hi x2 x3 hge wp hwp 5 _ (fun a => by pointwise) x y h0 h1
  · exact wt_lo x2 x3 hge wp hwp 5 _ (fun a => by pointwise) x y h0 h1
  · exact wt_hi x2 x3 hge wp hwp 4 _ (fun a => by pointwise) x y h0 h1
  · exact wt_lo x2 x3 hge wp hwp 4 _ (fun a => by pointwise) x y h0 h1
  · exact wt_hi x2 x3 hge wp hwp 3 _ (fun a => by pointwise) x y h0 h1
  · exact wt_lo x2 x3 hge wp hwp 3 _ (fun a => by pointwise) x y h0 h1
  · exact wt_hi x2 x3 hge wp hwp 2 _ (fun a => by pointwise) x y h0 h1
  · exact wt_lo x2 x3 hge wp hwp 2 _ (fun a => by pointwise) x y h0 h1
  · exact wt_hi x2 x3 hge wp hwp 1 _ (fun a => by pointwise) x y h0 h1
  · exact wt_lo x2 x3 hge wp hwp 1 _ (fun a => by pointwise) x y h0 h1
  · exact wt_hi x2 x3 hge wp hwp 0 _ (fun a => by pointwise) x y h0 h1
  · exact wt_lo x2 x3 hge wp hwp 0 _ (fun a => by pointwise) x y h0 (by rw [h1]; simp)

/-- The stores of the channel scales. -/
theorem wsc_canon (x4 : Vec Idealize.ShloMosaic.Ideal S1x576 .f32) (y : S576x128.Idx) :
    View.canon [(⟨Rect.unit ![0, 0] ![576, 128] inb_S576x128_S576x128_0_0, k0_pay38 (k0_pay37 x4)⟩ : View.Piece (Elt Idealize.ShloMosaic.Ideal) S576x128 .f32)] y = wscV x4 y := by
  canon_tiles x h
  obtain ⟨a, b, rfl⟩ : ∃ (a : Fin 576) (b : Fin 128), x = ix2 a b := ⟨x 0, x 1, by funext i; fin_cases i <;> rfl⟩
  obtain ⟨a', n, rfl⟩ : ∃ (a : Fin 576) (b : Fin 128), y = ix2 a b := ⟨y 0, y 1, by funext i; fin_cases i <;> rfl⟩
  obtain rfl : a' = a := Fin.ext h0
  have e : k0_pay38 (k0_pay37 x4) (ix2 a' b) = x4 (ix2 0 a') := by
    pointwise [k0_pay38, k0_pay37]
  exact e

end Cert.KernelIdeal.Gen
end
-- ==== Proof.Val.Blocks.lean ====
/- What one point of the grid leaves in each output block. -/
module

public import proofs.«01_k».proof.Proof.Val.PiecesA
public import proofs.«01_k».proof.Proof.Val.Scr
public import Idealize.ShloMosaic.Lib.WritesUnit

@[expose] public section
set_option maxRecDepth 16384
noncomputable section

namespace Cert.KernelIdeal.Gen
open Idealize.ShloMosaic Idealize.ShloMosaic.TcCoe Idealize.ShloMosaic.Tactic
open Cert.Spec

/-- One row of a block of activations. -/
def xrow (x0 : Vec Idealize.ShloMosaic.Ideal S1x512x1536 .bf16) (r n : ℕ) : EReal :=
  x0 (ix3 0 ⟨r % 512, Nat.mod_lt _ (by decide)⟩ ⟨n % 1536, Nat.mod_lt _ (by decide)⟩)

/-- A block of the second result, transposed. -/
def yV (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) : Vec Idealize.ShloMosaic.Ideal S1x576x512 .bf16 :=
  fun j => yR (wRk x2 x3 (j 1)) (x4 (ix2 0 (j 1 : Fin 576))) (xrow x0 (j 2).val) (hE x1)
/-- A block of codes. -/
def qV (x0 : Vec Idealize.ShloMosaic.Ideal S1x512x1536 .bf16) (x1 : Vec Idealize.ShloMosaic.Ideal S24x24 .f32) : Vec Idealize.ShloMosaic.Ideal S1x512x1536 .i8 :=
  fun j => BitVec.ofInt 8 (codeE (xrow x0 (j 1).val) (hE x1) (j 2).val)
/-- The scales after a point, from those before. -/
def aV (i : grid0.Coords) (x0 : Vec Idealize.ShloMosaic.Ideal S1x512x1536 .bf16) (x1 : Vec Idealize.ShloMosaic.Ideal S24x24 .f32) (B : Vec Idealize.ShloMosaic.Ideal S8x2048 .f32) : Vec Idealize.ShloMosaic.Ideal S8x2048 .f32 :=
  fun j => if (j 0).val = (i 0).val ∧ (i 1).val * 512 ≤ (j 1).val ∧ (j 1).val < (i 1).val * 512 + 512
    then scaleE (xrow x0 ((j 1).val - (i 1).val * 512)) (hE x1) else B j

/-- A load of a rectangle of contents reads them there. -/
theorem read_rect {S : Shape} {e : EltTy} (M : Memref sig .tc .vmem S e) (hM : M.IsWhole) (x : Vec Idealize.ShloMosaic.Ideal S e)
    (off size : Fin S.rank → ℕ) (inb : ∀ a, off a + size a ≤ S.size a) (j : (Rect.unit (s := S) off size inb).toLoadRect.shape.Idx) (y : S.Idx)
    (h : ∀ a, (y a).val = off a + 1 * (j a).val) :
    View.readAt (Elt Idealize.ShloMosaic.Ideal) M.view (Rect.unit (s := S) off size inb).toLoadRect (hM.unread x) j = x y := by
  rw [View.readAt_apply, hM.read_unread]
  exact congrArg x (funext fun a => Fin.ext (h a).symm)

/-- A load of a rectangle of stored pieces reads their value there. -/
theorem readCov_rect {S : Shape} {e : EltTy} (v : View sig .tc .vmem S e) (L : List (View.Piece (Elt Idealize.ShloMosaic.Ideal) S e)) {G : Vec Idealize.ShloMosaic.Ideal S e} (hG : ∀ y, View.canon L y = G y)
    (off size : Fin S.rank → ℕ) (inb : ∀ a, off a + size a ≤ S.size a) (j : (Rect.unit (s := S) off size inb).toLoadRect.shape.Idx) (y : S.Idx)
    (h : ∀ a, (y a).val = off a + 1 * (j a).val) :
    v.readCov L (Rect.unit (s := S) off size inb).toLoadRect j = G y := by
  rw [View.readCov_eq_canon' v L]
  refine (hG _).trans (congrArg G (funext fun a => Fin.ext (h a).symm))

/-- The read of the small matrix. -/
theorem read3 (arg3 : Memref sig .tc .vmem S24x24 .f32) (harg3 : arg3.IsWhole) (x1 : Vec Idealize.ShloMosaic.Ideal S24x24 .f32) :
    View.readAt (Elt Idealize.ShloMosaic.Ideal) arg3.view (Rect.unit (s := S24x24) ![0, 0] S24x24.size inb_S24x24_S24x24_0_0).toLoadRect (harg3.unread x1) = x1 :=
  funext fun j => read_rect arg3 harg3 x1 _ _ _ _ _ (fun a => by fin_cases a <;> simp)
/-- The read of the exponents. -/
theorem read5 (arg5 : Memref sig .tc .vmem S12x576 .i8) (harg5 : arg5.IsWhole) (x3 : Vec Idealize.ShloMosaic.Ideal S12x576 .i8) :
    View.readAt (Elt Idealize.ShloMosaic.Ideal) arg5.view (Rect.unit (s := S12x576) ![0, 0] S12x576.size inb_S12x576_S12x576_0_0).toLoadRect (harg5.unread x3) = x3 :=
  funext fun j => read_rect arg5 harg5 x3 _ _ _ _ _ (fun a => by fin_cases a <;> simp)
/-- The read of the weight scales. -/
theorem read6 (arg6 : Memref sig .tc .vmem S1x576 .f32) (harg6 : arg6.IsWhole) (x4 : Vec Idealize.ShloMosaic.Ideal S1x576 .f32) :
    View.readAt (Elt Idealize.ShloMosaic.Ideal) arg6.view (Rect.unit (s := S1x576) ![0, 0] S1x576.size inb_S1x576_S1x576_0_0).toLoadRect (harg6.unread x4) = x4 :=
  funext fun j => read_rect arg6 harg6 x4 _ _ _ _ _ (fun a => by fin_cases a <;> simp)

/-- The packed columns read. -/
theorem wpR_at (arg4 : Memref sig .tc .vmem S576x768 .i8) (harg4 : arg4.IsWhole) (x2 : Vec Idealize.ShloMosaic.Ideal S576x768 .i8) (g : Fin 6) (a : Fin 576) (l : Fin 128) :
    wpR arg4 harg4 x2 g (ix2 a l) = x2 (ix2 a ⟨128 * g.val + l.val, by omega⟩) := by
  fin_cases g <;> exact read_rect arg4 harg4 x2 _ _ _ _ _ (fun b => by fin_cases b <;> simp [ix2])

/-- A slab of activations read. -/
theorem slab_at (arg2 : Memref sig .tc .vmem S1x512x1536 .bf16) (harg2 : arg2.IsWhole) (x0 : Vec Idealize.ShloMosaic.Ideal S1x512x1536 .bf16)
    (p q : ℕ) (inb : ∀ a, (![0, p, q] : Fin 3 → ℕ) a + S1x256x256.size a ≤ S1x512x1536.size a) (r j : Fin 256) :
    View.readAt (Elt Idealize.ShloMosaic.Ideal) arg2.view (Rect.unit (s := S1x512x1536) ![0, p, q] S1x256x256.size inb).toLoadRect (harg2.unread x0) (ix3 0 r j)
      = xrow x0 (p + r.val) (q + j.val) := by
  have hp : p + 256 ≤ 512 := inb 1
  have hq : q + 256 ≤ 1536 := inb 2
  refine (read_rect arg2 harg2 x0 _ _ _ (ix3 0 r j) (ix3 0 ⟨(p + r.val) % 512, Nat.mod_lt _ (by decide)⟩ ⟨(q + j.val) % 1536, Nat.mod_lt _ (by decide)⟩) (fun a => ?_)).trans ?_
  · fin_cases a
    · rfl
    · show (p + r.val) % 512 = p + 1 * r.val
      omega
    · show (q + j.val) % 1536 = q + 1 * j.val
      omega
  · rfl

/-- An entry of the first slab, as a real. -/
theorem xaR_at (arg2 : Memref sig .tc .vmem S1x512x1536 .bf16) (harg2 : arg2.IsWhole) (x0 : Vec Idealize.ShloMosaic.Ideal S1x512x1536 .bf16)
    (ch : Fin 2) (g : Fin 4) (r j : Fin 256) : xaR arg2 harg2 x0 ch g (ix3 0 r j) = xrow x0 (256 * ch.val + r.val) (384 * g.val + j.val) := by
  fin_cases ch <;> fin_cases g <;> exact slab_at arg2 harg2 x0 _ _ _ r j
/-- An entry of the second slab, as a real. -/
theorem xbR_at (arg2 : Memref sig .tc .vmem S1x512x1536 .bf16) (harg2 : arg2.IsWhole) (x0 : Vec Idealize.ShloMosaic.Ideal S1x512x1536 .bf16)
    (ch : Fin 2) (g : Fin 4) (r j : Fin 256) : xbR arg2 harg2 x0 ch g (ix3 0 r j) = xrow x0 (256 * ch.val + r.val) (384 * g.val + 128 + j.val) := by
  fin_cases ch <;> fin_cases g <;> exact slab_at arg2 harg2 x0 _ _ _ r j

/-- The first point's chunks hold the rotated rows. -/
theorem oA_ok (arg2 : Memref sig .tc .vmem S1x512x1536 .bf16) (harg2 : arg2.IsWhole) (arg10 : Memref sig .tc .vmem S2x256x256 .bf16)
    (x0 : Vec Idealize.ShloMosaic.Ideal S1x512x1536 .bf16) (x1 : Vec Idealize.ShloMosaic.Ideal S24x24 .f32) (ch : Fin 2) :
    OK (oA arg2 harg2 arg10 x0 x1 ch) (hE x1) (fun r => xrow x0 (256 * ch.val + r.val)) := by
  intro r
  refine ⟨fun hp G t l => ?_, fun hp => ?_⟩
  · exact cOut_at _ _ _ _ _ _ hp r l (fun i j => readCov_rect arg10.view (pcsRot x1) (rot_canon x1) _ _ _ _ (ix3 0 i j) (fun a => by fin_cases a <;> simp [ix3])) (fun i j => readCov_rect arg10.view (pcsRot x1) (rot_canon x1) _ _ _ _ (ix3 1 i j) (fun a => by fin_cases a <;> simp [ix3])) (fun g j => xaR_at arg2 harg2 x0 ch g r j) (fun g j => xbR_at arg2 harg2 x0 ch g r j) G t
  · exact cOut_inf _ _ _ _ _ _ hp r (fun i j => readCov_rect arg10.view (pcsRot x1) (rot_canon x1) _ _ _ _ (ix3 0 i j) (fun a => by fin_cases a <;> simp [ix3])) (fun i j => readCov_rect arg10.view (pcsRot x1) (rot_canon x1) _ _ _ _ (ix3 1 i j) (fun a => by fin_cases a <;> simp [ix3])) (fun g j => xaR_at arg2 harg2 x0 ch g r j) (fun g j => xbR_at arg2 harg2 x0 ch g r j)
/-- A later point's chunks hold the rotated rows. -/
theorem oB_ok (arg2 : Memref sig .tc .vmem S1x512x1536 .bf16) (harg2 : arg2.IsWhole) (arg10 : Memref sig .tc .vmem S2x256x256 .bf16) (harg10 : arg10.IsWhole)
    (x0 : Vec Idealize.ShloMosaic.Ideal S1x512x1536 .bf16) (x1 : Vec Idealize.ShloMosaic.Ideal S24x24 .f32) (ch : Fin 2) :
    OK (oB arg2 harg2 arg10 harg10 x0 (rotV x1) ch) (hE x1) (fun r => xrow x0 (256 * ch.val + r.val)) := by
  intro r
  refine ⟨fun hp G t l => ?_, fun hp => ?_⟩
  · exact cOut_at _ _ _ _ _ _ hp r l (fun i j => read_rect arg10 harg10 (rotV x1) _ _ _ _ (ix3 0 i j) (fun a => by fin_cases a <;> simp [ix3])) (fun i j => read_rect arg10 harg10 (rotV x1) _ _ _ _ (ix3 1 i j) (fun a => by fin_cases a <;> simp [ix3])) (fun g j => xaR_at arg2 harg2 x0 ch g r j) (fun g j => xbR_at arg2 harg2 x0 ch g r j) G t
  · exact cOut_inf _ _ _ _ _ _ hp r (fun i j => read_rect arg10 harg10 (rotV x1) _ _ _ _ (ix3 0 i j) (fun a => by fin_cases a <;> simp [ix3])) (fun i j => read_rect arg10 harg10 (rotV x1) _ _ _ _ (ix3 1 i j) (fun a => by fin_cases a <;> simp [ix3])) (fun g j => xaR_at arg2 harg2 x0 ch g r j) (fun g j => xbR_at arg2 harg2 x0 ch g r j)

/-- A stored piece of codes is the piece of the step's code block. -/
theorem code_piece {O : Fin 4 → Fin 3 → FVec Idealize.ShloMosaic.Ideal S256x128 .f32} (x0 : Vec Idealize.ShloMosaic.Ideal S1x512x1536 .bf16) (x1 : Vec Idealize.ShloMosaic.Ideal S24x24 .f32) (ch : Fin 2)
    (hO : OK O (hE x1) (fun r => xrow x0 (256 * ch.val + r.val))) (G : Fin 4) (t : Fin 3) (x : S1x256x128.Idx) (y : S1x512x1536.Idx)
    (h1 : (y 1).val = 256 * ch.val + (x 1).val) (h2 : (y 2).val = 384 * G.val + 128 * t.val + (x 2).val) :
    cCode O G t x = qV x0 x1 y := by
  obtain ⟨a, r, l, rfl⟩ : ∃ (a : Fin 1) (b : Fin 256) (c : Fin 128), x = ix3 a b c := ⟨x 0, x 1, x 2, by funext i; fin_cases i <;> rfl⟩
  obtain rfl : a = 0 := Subsingleton.elim _ _
  rw [cCode_at hO]
  unfold qV
  rw [h1, h2]
  rfl

/-- The stores of the codes. -/
theorem pcs6_canon (x0 : Vec Idealize.ShloMosaic.Ideal S1x512x1536 .bf16) (x1 : Vec Idealize.ShloMosaic.Ideal S24x24 .f32) {O0 O1 : Fin 4 → Fin 3 → FVec Idealize.ShloMosaic.Ideal S256x128 .f32}
    (h0 : OK O0 (hE x1) (fun r => xrow x0 (256 * (0 : Fin 2).val + r.val))) (h1 : OK O1 (hE x1) (fun r => xrow x0 (256 * (1 : Fin 2).val + r.val))) (y : S1x512x1536.Idx) :
    View.canon (pcs6 O0 O1) y = qV x0 x1 y := by
  unfold pcs6
  canon_tiles x h
  all_goals first
    | exact code_piece x0 x1 1 (by assumption) _ _ x y (by simp only [Fin.val_one, Fin.val_zero]; omega) (by simp only [Fin.val_one, Fin.val_zero, Fin.val_two]; omega)
    | exact code_piece x0 x1 0 (by assumption) _ _ x y (by simp only [Fin.val_one, Fin.val_zero]; omega) (by simp only [Fin.val_one, Fin.val_zero, Fin.val_two]; omega)

/-- The four stored pieces of the step make its output block. -/
theorem y_pieces {O : Fin 4 → Fin 3 → FVec Idealize.ShloMosaic.Ideal S256x128 .f32} (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (ch : Fin 2)
    (hO : OK O (hE x1) (fun r => xrow x0 (256 * ch.val + r.val))) (w : Vec Idealize.ShloMosaic.Ideal S576x1536 .fp8e4m3) (wsc : Vec Idealize.ShloMosaic.Ideal S576x128 .f32)
    (hw : ∀ j, w j = wV x2 x3 j) (hs : ∀ j, wsc j = wscV x4 j) (x : S1x576x128.Idx) (y : S1x576x512.Idx) (h1 : (y 1).val = (x 1).val) :
    ((y 2).val = 256 * ch.val + (x 2).val → cY0 O w wsc x = yV x0 x1 x2 x3 x4 y) ∧
    ((y 2).val = 256 * ch.val + 128 + (x 2).val → cY1 O w wsc x = yV x0 x1 x2 x3 x4 y) := by
  obtain ⟨a, o, l, rfl⟩ : ∃ (a : Fin 1) (b : Fin 576) (c : Fin 128), x = ix3 a b c := ⟨x 0, x 1, x 2, by funext i; fin_cases i <;> rfl⟩
  obtain rfl : a = 0 := Subsingleton.elim _ _
  obtain ⟨a', o', l', rfl⟩ : ∃ (a : Fin 1) (b : Fin 576) (c : Fin 512), y = ix3 a b c := ⟨y 0, y 1, y 2, by funext i; fin_cases i <;> rfl⟩
  obtain rfl : o' = o := Fin.ext h1
  constructor
  · intro h2
    replace h2 : l'.val = 256 * ch.val + l.val := h2
    refine (cY0_at hO w wsc (wRk x2 x3 o') (x4 (ix2 0 o')) o' (fun n => hw _) (fun l => hs _) l).trans ?_
    show yR (wRk x2 x3 o') (x4 (ix2 0 o')) (xrow x0 (256 * ch.val + l.val)) (hE x1) = yR (wRk x2 x3 o') (x4 (ix2 0 o')) (xrow x0 l'.val) (hE x1)
    rw [h2]
  · intro h2
    replace h2 : l'.val = 256 * ch.val + 128 + l.val := h2
    refine (cY1_at hO w wsc (wRk x2 x3 o') (x4 (ix2 0 o')) o' (fun n => hw _) (fun l => hs _) l).trans ?_
    show yR (wRk x2 x3 o') (x4 (ix2 0 o')) (xrow x0 (256 * ch.val + (128 + l.val))) (hE x1) = yR (wRk x2 x3 o') (x4 (ix2 0 o')) (xrow x0 l'.val) (hE x1)
    rw [h2, Nat.add_assoc]

/-- The stores of the products. -/
theorem pcs5_canon (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) {O0 O1 : Fin 4 → Fin 3 → FVec Idealize.ShloMosaic.Ideal S256x128 .f32}
    (h0 : OK O0 (hE x1) (fun r => xrow x0 (256 * (0 : Fin 2).val + r.val))) (h1 : OK O1 (hE x1) (fun r => xrow x0 (256 * (1 : Fin 2).val + r.val)))
    (w : Vec Idealize.ShloMosaic.Ideal S576x1536 .fp8e4m3) (wsc : Vec Idealize.ShloMosaic.Ideal S576x128 .f32)
    (hw : ∀ j, w j = wV x2 x3 j) (hs : ∀ j, wsc j = wscV x4 j) (y : S1x576x512.Idx) :
    View.canon (pcs5 O0 O1 w wsc) y = yV x0 x1 x2 x3 x4 y := by
  unfold pcs5
  rename' h0 => g0, h1 => g1
  canon_tiles x h
  · exact (y_pieces x0 x1 x2 x3 x4 1 g1 w wsc hw hs x y (by omega)).2 (by simp only [Fin.val_one]; omega)
  · exact (y_pieces x0 x1 x2 x3 x4 1 g1 w wsc hw hs x y (by omega)).1 (by simp only [Fin.val_one]; omega)
  · exact (y_pieces x0 x1 x2 x3 x4 0 g0 w wsc hw hs x y (by omega)).2 (by simp only [Fin.val_zero]; omega)
  · exact (y_pieces x0 x1 x2 x3 x4 0 g0 w wsc hw hs x y (by omega)).1 (by simp only [Fin.val_zero]; omega)

/-- Where the first chunk's scales go. -/
theorem off1_0 (i : grid0.Coords) : k0_off1 i 0#32 = ![0, (i 1).val * 512] := by
  have key : ∀ n : Fin 4, ![(0#32 : BitVec 32).toNat, (Scalar.addi (Scalar.muli (BitVec.ofNat 32 n.val) 512#32) 0#32 : BitVec 32).toNat] = (![0, n.val * 512] : Fin 2 → ℕ) := by decide
  exact key (i 1)
/-- Where the second chunk's scales go. -/
theorem off1_1 (i : grid0.Coords) : k0_off1 i 256#32 = ![0, (i 1).val * 512 + 256] := by
  have key : ∀ n : Fin 4, ![(0#32 : BitVec 32).toNat, (Scalar.addi (Scalar.muli (BitVec.ofNat 32 n.val) 512#32) 256#32 : BitVec 32).toNat] = (![0, n.val * 512 + 256] : Fin 2 → ℕ) := by decide
  exact key (i 1)

/-- The stores of the scales, over any contents. -/
theorem rows_at (v : View sig .tc .vmem S8x2048 .f32) (f : v.ty.Contents (Elt Idealize.ShloMosaic.Ideal)) (i : grid0.Coords) (x0 : Vec Idealize.ShloMosaic.Ideal S1x512x1536 .bf16) (x1 : Vec Idealize.ShloMosaic.Ideal S24x24 .f32)
    {O0 O1 : Fin 4 → Fin 3 → FVec Idealize.ShloMosaic.Ideal S256x128 .f32}
    (h0 : OK O0 (hE x1) (fun r => xrow x0 (256 * (0 : Fin 2).val + r.val))) (h1 : OK O1 (hE x1) (fun r => xrow x0 (256 * (1 : Fin 2).val + r.val)))
    (L : List (View.Piece (Elt Idealize.ShloMosaic.Ideal) S8x2048 .f32)) (B : Vec Idealize.ShloMosaic.Ideal S8x2048 .f32)
    (hB : ∀ y, v.read (Elt Idealize.ShloMosaic.Ideal) (v.writes (Elt Idealize.ShloMosaic.Ideal) f L) y = B y)
    (V0 V1 : Vec Idealize.ShloMosaic.Ideal S8x256 .f32)
    (hV0 : ∀ (b : Fin 8) (r : Fin 256), V0 (ix2 b r) = B ((Rect.unit (s := S8x2048) (k0_off1 i 0#32) S8x256.size (k0_off1_inb i 0)).toLoadRect.idx (ix2 b r)))
    (hV1 : ∀ (b : Fin 8) (r : Fin 256), V1 (ix2 b r) = B ((Rect.unit (s := S8x2048) (k0_off1 i 256#32) S8x256.size (k0_off1_inb i 1)).toLoadRect.idx (ix2 b r)))
    (y : S8x2048.Idx) :
    v.read (Elt Idealize.ShloMosaic.Ideal) (v.writes (Elt Idealize.ShloMosaic.Ideal) f
      (⟨Rect.unit (s := S8x2048) (k0_off1 i 256#32) ![8, 256] (k0_off1_inb i 1), cRow (BitVec.ofNat 32 (i 0).val) O1 V1⟩ ::
       ⟨Rect.unit (s := S8x2048) (k0_off1 i 0#32) ![8, 256] (k0_off1_inb i 0), cRow (BitVec.ofNat 32 (i 0).val) O0 V0⟩ :: L)) y = aV i x0 x1 B y := by
  obtain ⟨b, n, rfl⟩ : ∃ (a : Fin 8) (b : Fin 2048), y = ix2 a b := ⟨y 0, y 1, by funext i; fin_cases i <;> rfl⟩
  have hi : (i 1).val < 4 := (i 1).isLt
  have hn := n.isLt
  have hb := b.isLt
  show _ = if b.val = (i 0).val ∧ (i 1).val * 512 ≤ n.val ∧ n.val < (i 1).val * 512 + 512
    then scaleE (xrow x0 (n.val - (i 1).val * 512)) (hE x1) else B (ix2 b n)
  by_cases c1 : (i 1).val * 512 + 256 ≤ n.val ∧ n.val < (i 1).val * 512 + 512
  · refine (View.read_writes_cons_unit_of_mem v f _ _ _ (ix2 b n) (ix2 b ⟨n.val - ((i 1).val * 512 + 256), by omega⟩) (off1_1 i) ?_).trans ?_
    · intro a
      fin_cases a
      · show b.val = 0 + b.val
        omega
      · show n.val = (i 1).val * 512 + 256 + (n.val - ((i 1).val * 512 + 256))
        omega
    · refine (cRow_at h1 (⟨(i 0).val, (i 0).isLt⟩ : Fin 8) V1 b _).trans ?_
      have e1 : 256 * (1 : Fin 2).val + (n.val - ((i 1).val * 512 + 256)) = n.val - (i 1).val * 512 := by
        show 256 * 1 + _ = _
        omega
      refine if_congr ⟨fun H => ⟨congrArg Fin.val H, by omega⟩, fun H => Fin.ext H.1⟩ ?_ ?_
      · show scaleE (xrow x0 (256 * (1 : Fin 2).val + (n.val - ((i 1).val * 512 + 256)))) (hE x1) = _
        rw [e1]
      · rw [hV1]
        refine congrArg B (funext fun a => Fin.ext ?_)
        refine (congrArg (fun z => z + 1 * _) (congrFun (off1_1 i) a)).trans ?_
        fin_cases a
        · show 0 + 1 * b.val = b.val
          omega
        · show (i 1).val * 512 + 256 + 1 * (n.val - ((i 1).val * 512 + 256)) = n.val
          omega
  · refine (View.read_writes_cons_unit_of_not_mem v f _ _ _ (ix2 b n) (off1_1 i) 1 (by show n.val < (i 1).val * 512 + 256 ∨ (i 1).val * 512 + 256 + 256 ≤ n.val; omega)).trans ?_
    by_cases c0 : (i 1).val * 512 ≤ n.val ∧ n.val < (i 1).val * 512 + 256
    · refine (View.read_writes_cons_unit_of_mem v f _ _ _ (ix2 b n) (ix2 b ⟨n.val - (i 1).val * 512, by omega⟩) (off1_0 i) ?_).trans ?_
      · intro a
        fin_cases a
        · show b.val = 0 + b.val
          omega
        · show n.val = (i 1).val * 512 + (n.val - (i 1).val * 512)
          omega
      · refine (cRow_at h0 (⟨(i 0).val, (i 0).isLt⟩ : Fin 8) V0 b _).trans ?_
        have e1 : 256 * (0 : Fin 2).val + (n.val - (i 1).val * 512) = n.val - (i 1).val * 512 := by
          show 256 * 0 + _ = _
          omega
        refine if_congr ⟨fun H => ⟨congrArg Fin.val H, by omega⟩, fun H => Fin.ext H.1⟩ ?_ ?_
        · show scaleE (xrow x0 (256 * (0 : Fin 2).val + (n.val - (i 1).val * 512))) (hE x1) = _
          rw [e1]
        · rw [hV0]
          refine congrArg B (funext fun a => Fin.ext ?_)
          refine (congrArg (fun z => z + 1 * _) (congrFun (off1_0 i) a)).trans ?_
          fin_cases a
          · show 0 + 1 * b.val = b.val
            omega
          · show (i 1).val * 512 + 1 * (n.val - (i 1).val * 512) = n.val
            omega
    · refine (View.read_writes_cons_unit_of_not_mem v f _ _ _ (ix2 b n) (off1_0 i) 1 (by show n.val < (i 1).val * 512 ∨ (i 1).val * 512 + 256 ≤ n.val; omega)).trans ?_
      rw [hB, if_neg (by omega)]

/-- The store of zeros reads zero. -/
theorem zero_at (v : View sig .tc .vmem S8x2048 .f32) (f : v.ty.Contents (Elt Idealize.ShloMosaic.Ideal)) (y : S8x2048.Idx) :
    v.read (Elt Idealize.ShloMosaic.Ideal) (v.writes (Elt Idealize.ShloMosaic.Ideal) f [⟨Rect.unit (s := S8x2048) ![0, 0] ![8, 2048] inb_S8x2048_S8x2048_0_0, k0_pay4 (F := Idealize.ShloMosaic.Ideal)⟩]) y = (0 : EReal) := by
  refine (View.read_writes_cons_unit_of_mem v f _ _ _ y y rfl (fun a => by fin_cases a <;> simp)).trans ?_
  obtain ⟨b, n, rfl⟩ : ∃ (a : Fin 8) (b : Fin 2048), y = ix2 a b := ⟨y 0, y 1, by funext i; fin_cases i <;> rfl⟩
  pointwise [k0_pay4]

/-- The first point leaves the rotation tiles. -/
theorem sout_A_0 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : sout0_A_0 c i arg2 harg2 arg3 harg3 arg4 harg4 arg5 harg5 arg6 harg6 arg7 harg7 arg8 harg8 arg9 harg9 arg10 harg10 arg11 harg11 arg12 harg12 hc0 x0 x1 x2 x3 x4 xo7 = rotV x1 := by
  unfold sout0_A_0
  rw [spieces_A_0, View.read_writes_junk_eq_canon, read3 arg3 harg3 x1]
  exact funext fun y => rot_canon x1 y
/-- The first point leaves the weights. -/
theorem sout_A_1 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : sout0_A_1 c i arg2 harg2 arg3 harg3 arg4 harg4 arg5 harg5 arg6 harg6 arg7 harg7 arg8 harg8 arg9 harg9 arg10 harg10 arg11 harg11 arg12 harg12 hc0 x0 x1 x2 x3 x4 xo7 = wV x2 x3 := by
  unfold sout0_A_1
  rw [spieces_A_1, View.read_writes_junk_eq_canon, read5 arg5 harg5 x3]
  exact funext fun y => w_canon x2 x3 hge _ (wpR_at arg4 harg4 x2) y
/-- The first point leaves the channel scales. -/
theorem sout_A_2 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : sout0_A_2 c i arg2 harg2 arg3 harg3 arg4 harg4 arg5 harg5 arg6 harg6 arg7 harg7 arg8 harg8 arg9 harg9 arg10 harg10 arg11 harg11 arg12 harg12 hc0 x0 x1 x2 x3 x4 xo7 = wscV x4 := by
  unfold sout0_A_2
  rw [spieces_A_2, View.read_writes_junk_eq_canon, read6 arg6 harg6 x4]
  exact funext fun y => wsc_canon x4 y
/-- The first point's codes. -/
theorem out_A_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : out0_A_6 c i arg2 harg2 arg3 harg3 arg4 harg4 arg5 harg5 arg6 harg6 arg7 harg7 arg8 harg8 arg9 harg9 arg10 harg10 arg11 harg11 arg12 harg12 hc0 x0 x1 x2 x3 x4 xo7 = qV x0 x1 := by
  unfold out0_A_6
  rw [pieces_A_6, View.read_writes_junk_eq_canon, read3 arg3 harg3 x1]
  exact funext fun y => pcs6_canon x0 x1 (oA_ok arg2 harg2 arg10 x0 x1 0) (oA_ok arg2 harg2 arg10 x0 x1 1) y
/-- The first point's products. -/
theorem out_A_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : out0_A_5 c i arg2 harg2 arg3 harg3 arg4 harg4 arg5 harg5 arg6 harg6 arg7 harg7 arg8 harg8 arg9 harg9 arg10 harg10 arg11 harg11 arg12 harg12 hc0 x0 x1 x2 x3 x4 xo7 = yV x0 x1 x2 x3 x4 := by
  unfold out0_A_5
  rw [pieces_A_5, View.read_writes_junk_eq_canon, read3 arg3 harg3 x1, read5 arg5 harg5 x3, read6 arg6 harg6 x4]
  exact funext fun y => pcs5_canon x0 x1 x2 x3 x4 (oA_ok arg2 harg2 arg10 x0 x1 0) (oA_ok arg2 harg2 arg10 x0 x1 1) _ _
    (fun j => readCov_rect arg11.view (pcsW (wpR arg4 harg4 x2) x3) (w_canon x2 x3 hge _ (wpR_at arg4 harg4 x2)) _ _ _ _ _ (by simp))
    (fun j => readCov_rect arg12.view _ (wsc_canon x4) _ _ _ _ _ (by simp)) y
/-- The first point's scales. -/
theorem out_A_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : out0_A_7 c i arg2 harg2 arg3 harg3 arg4 harg4 arg5 harg5 arg6 harg6 arg7 harg7 arg8 harg8 arg9 harg9 arg10 harg10 arg11 harg11 arg12 harg12 hc0 x0 x1 x2 x3 x4 xo7 = aV i x0 x1 (fun _ => (0 : EReal)) := by
  unfold out0_A_7
  rw [pieces_A_7, read3 arg3 harg3 x1]
  refine funext fun y => ?_
  refine rows_at VO0_7 VO0_7.junk i x0 x1 (oA_ok arg2 harg2 arg10 x0 x1 0) (oA_ok arg2 harg2 arg10 x0 x1 1) _ (fun _ => (0 : EReal)) (fun y => zero_at VO0_7 _ y) _ _ (fun b r => ?_) (fun b r => ?_) y
  · exact zero_at arg9.view _ _
  · rw [View.readAt_apply]
    refine (View.read_writes_cons_unit_of_not_mem arg9.view _ _ _ _ _ (off1_0 i) 1 (Or.inr ?_)).trans (zero_at arg9.view _ _)
    show (i 1).val * 512 + 256 ≤ k0_off1 i 256#32 1 + 1 * r.val
    rw [off1_1]
    show _ ≤ (i 1).val * 512 + 256 + 1 * r.val
    omega

/-- A later point's codes. -/
theorem out_B_6 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : out0_B_6 c i arg2 harg2 arg3 harg3 arg4 harg4 arg5 harg5 arg6 harg6 arg7 harg7 arg8 harg8 arg9 harg9 arg10 harg10 arg11 harg11 arg12 harg12 hc0 x0 x1 x2 x3 x4 xo7 (rotV x1) (wV x2 x3) (wscV x4) = qV x0 x1 := by
  unfold out0_B_6
  rw [pieces_B_6, View.read_writes_junk_eq_canon]
  exact funext fun y => pcs6_canon x0 x1 (oB_ok arg2 harg2 arg10 harg10 x0 x1 0) (oB_ok arg2 harg2 arg10 harg10 x0 x1 1) y
/-- A later point's products. -/
theorem out_B_5 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : out0_B_5 c i arg2 harg2 arg3 harg3 arg4 harg4 arg5 harg5 arg6 harg6 arg7 harg7 arg8 harg8 arg9 harg9 arg10 harg10 arg11 harg11 arg12 harg12 hc0 x0 x1 x2 x3 x4 xo7 (rotV x1) (wV x2 x3) (wscV x4) = yV x0 x1 x2 x3 x4 := by
  unfold out0_B_5
  rw [pieces_B_5, View.read_writes_junk_eq_canon]
  exact funext fun y => pcs5_canon x0 x1 x2 x3 x4 (oB_ok arg2 harg2 arg10 harg10 x0 x1 0) (oB_ok arg2 harg2 arg10 harg10 x0 x1 1) _ _
    (fun j => read_rect arg11 harg11 _ _ _ _ _ _ (by simp))
    (fun j => read_rect arg12 harg12 _ _ _ _ _ _ (by simp)) y
/-- A later point's scales: its columns, over what it found. -/
theorem out_B_7 (c : Dev nD) (i : grid0.Coords) (arg2 : Memref sig .tc .vmem S1x512x1536 .bf16) (harg2 : arg2.IsWhole) (arg3 : Memref sig .tc .vmem S24x24 .f32) (harg3 : arg3.IsWhole) (arg4 : Memref sig .tc .vmem S576x768 .i8) (harg4 : arg4.IsWhole) (arg5 : Memref sig .tc .vmem S12x576 .i8) (harg5 : arg5.IsWhole) (arg6 : Memref sig .tc .vmem S1x576 .f32) (harg6 : arg6.IsWhole) (arg7 : Memref sig .tc .vmem S1x576x512 .bf16) (harg7 : arg7.IsWhole) (arg8 : Memref sig .tc .vmem S1x512x1536 .i8) (harg8 : arg8.IsWhole) (arg9 : Memref sig .tc .vmem S8x2048 .f32) (harg9 : arg9.IsWhole) (arg10 : Memref sig .tc .vmem S2x256x256 .bf16) (harg10 : arg10.IsWhole) (arg11 : Memref sig .tc .vmem S576x1536 .fp8e4m3) (harg11 : arg11.IsWhole) (arg12 : Memref sig .tc .vmem S576x128 .f32) (harg12 : arg12.IsWhole) (hc0 : ¬cond0_0 i) (x0 : Vec Idealize.ShloMosaic.Ideal S1x512x1536 .bf16) (x1 : Vec Idealize.ShloMosaic.Ideal S24x24 .f32) (x2 : Vec Idealize.ShloMosaic.Ideal S576x768 .i8) (x3 : Vec Idealize.ShloMosaic.Ideal S12x576 .i8) (x4 : Vec Idealize.ShloMosaic.Ideal S1x576 .f32) (xo7 : Vec Idealize.ShloMosaic.Ideal S8x2048 .f32) (hge : GeOk x3) : out0_B_7 c i arg2 harg2 arg3 harg3 arg4 harg4 arg5 harg5 arg6 harg6 arg7 harg7 arg8 harg8 arg9 harg9 arg10 harg10 arg11 harg11 arg12 harg12 hc0 x0 x1 x2 x3 x4 xo7 (rotV x1) (wV x2 x3) (wscV x4) = aV i x0 x1 xo7 := by
  unfold out0_B_7
  rw [pieces_B_7]
  refine funext fun y => ?_
  refine rows_at arg9.view (harg9.unread xo7) i x0 x1 (oB_ok arg2 harg2 arg10 harg10 x0 x1 0) (oB_ok arg2 harg2 arg10 harg10 x0 x1 1) [] xo7 (fun y => congrFun (harg9.read_unread xo7) y) _ _ (fun b r => ?_) (fun b r => ?_) y
  · rw [View.readAt_apply, harg9.read_unread]
  · rw [View.readAt_apply, harg9.read_unread]

end Cert.KernelIdeal.Gen
end
-- ==== Proof.Val.Dats.lean ====
/- The run of the kernel's pipeline, with what every point leaves named. -/
module

public import proofs.«01_k».proof.Proof.Val.Blocks

@[expose] public section
set_option maxRecDepth 16384
noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- The first point. -/
def z0 : Fin cfg0.N := ⟨0, by rw [show cfg0.N = 32 from N_0]; decide⟩

/-- The small matrix, the packed weights, the exponents and the channel scales, as every point finds them. -/
def w1 (c : Dev nD) : Vec Idealize.ShloMosaic.Ideal S24x24 .f32 := iblk m c 1 z0
def w2 (c : Dev nD) : Vec Idealize.ShloMosaic.Ideal S576x768 .i8 := iblk m c 2 z0
def w3 (c : Dev nD) : Vec Idealize.ShloMosaic.Ideal S12x576 .i8 := iblk m c 3 z0
def w4 (c : Dev nD) : Vec Idealize.ShloMosaic.Ideal S1x576 .f32 := iblk m c 4 z0

/-- The block of the small matrix is the whole array. -/
theorem iblk1 (c : Dev nD) (t : Fin cfg0.N) : iblk m c 1 t = w1 m c := by
  rfl
/-- The block of the packed weights is the whole array. -/
theorem iblk2 (c : Dev nD) (t : Fin cfg0.N) : iblk m c 2 t = w2 m c := by
  rfl
/-- The block of the exponents is the whole array. -/
theorem iblk3 (c : Dev nD) (t : Fin cfg0.N) : iblk m c 3 t = w3 m c := by
  rfl
/-- The block of the weight scales is the whole array. -/
theorem iblk4 (c : Dev nD) (t : Fin cfg0.N) : iblk m c 4 t = w4 m c := by
  rfl

/-- The scales after point `n`. -/
def accV (c : Dev nD) : ℕ → Vec Idealize.ShloMosaic.Ideal S8x2048 .f32
  | 0 => aV (grid0.coords z0) (iblk m c 0 z0) (w1 m c) (fun _ => (0 : EReal))
  | n + 1 => if h : n + 1 < cfg0.N then aV (grid0.coords ⟨n + 1, h⟩) (iblk m c 0 ⟨n + 1, h⟩) (w1 m c) (accV c n) else accV c n

/-- The scale block after the first step. -/
theorem accV_zero (c : Dev nD) (t : Fin cfg0.N) (h : t.val = 0) : accV m c t.val = aV (grid0.coords t) (iblk m c 0 t) (w1 m c) (fun _ => (0 : EReal)) := by
  obtain rfl : t = z0 := Fin.ext h
  rfl
/-- The scale block after a later step. -/
theorem accV_pos (c : Dev nD) (t : Fin cfg0.N) (h : t.val ≠ 0) : accV m c t.val = aV (grid0.coords t) (iblk m c 0 t) (w1 m c) (accV m c (t.val - 1)) := by
  obtain ⟨n, hn⟩ := t
  cases n with
  | zero => exact absurd rfl h
  | succ n => exact dif_pos hn

/-- The invariant between points: anything before the first, the three scratch buffers' contents after it. -/
def PhiV (c : Dev nD) : (n : ℕ) → sProp 𝕄
  | 0 => Pipeline.ΦA spec0 c
  | n + 1 => iprop(iprop(owns (c : Thread nD τ) scM0_0 fullShare (rotV (w1 m c)) ∗ owns (c : Thread nD τ) scM0_1 fullShare (wV (w2 m c) (w3 m c)) ∗ owns (c : Thread nD τ) scM0_2 fullShare (wscV (w4 m c))) ∗ (∃ r, prngReg c r))

/-- Before the first step nothing is known of the scratches. -/
theorem PhiV_zero (c : Dev nD) (n : ℕ) (hz : n = 0) : PhiV m c n = Pipeline.ΦA spec0 c := by
  subst hz; rfl
/-- Before a later step the scratches hold their values. -/
theorem PhiV_pos (c : Dev nD) (n : ℕ) (hz : n ≠ 0) :
    PhiV m c n = iprop(iprop(owns (c : Thread nD τ) scM0_0 fullShare (rotV (w1 m c)) ∗ owns (c : Thread nD τ) scM0_1 fullShare (wV (w2 m c) (w3 m c)) ∗ owns (c : Thread nD τ) scM0_2 fullShare (wscV (w4 m c))) ∗ (∃ r, prngReg c r)) := by
  cases n with
  | zero => exact absurd rfl hz
  | succ n => rfl

/-- The pipeline's data: what each window holds after each point. -/
def datsV (_ : Fin 1) (c : Dev nD) : Dat τ (Elt Idealize.ShloMosaic.Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yV (iblk m c 0 t) (w1 m c) (w2 m c) (w3 m c) (w4 m c)
    | ⟨6, _⟩ => qV (iblk m c 0 t) (w1 m c)
    | ⟨7, _⟩ => accV m c t.val
  Φ t := PhiV m c t.val
  q _ := fullShare
  owed _ := 0

/-- The arrays the call starts from. -/
theorem datsV_A (c : Dev nD) (w : Fin cfg0.W) : (datsV m 0 c).A w = V m c (Pipeline.arrRef spec0 w) := by
  dsimp only [datsV]
/-- The invariant at a step. -/
theorem PhiV_castSucc (c : Dev nD) (t : Fin cfg0.N) : (datsV m 0 c).Φ t.castSucc = PhiV m c t.val := rfl

/-- What the step leaves in a window. -/
theorem afterV_0 (c : Dev nD) (t : Fin cfg0.N) : (datsV m 0 c).after 0 t = iblk m c 0 t := by dsimp only [datsV]
/-- What the step leaves in a window. -/
theorem afterV_1 (c : Dev nD) (t : Fin cfg0.N) : (datsV m 0 c).after 1 t = iblk m c 1 t := by dsimp only [datsV]
/-- What the step leaves in a window. -/
theorem afterV_2 (c : Dev nD) (t : Fin cfg0.N) : (datsV m 0 c).after 2 t = iblk m c 2 t := by dsimp only [datsV]
/-- What the step leaves in a window. -/
theorem afterV_3 (c : Dev nD) (t : Fin cfg0.N) : (datsV m 0 c).after 3 t = iblk m c 3 t := by dsimp only [datsV]
/-- What the step leaves in a window. -/
theorem afterV_4 (c : Dev nD) (t : Fin cfg0.N) : (datsV m 0 c).after 4 t = iblk m c 4 t := by dsimp only [datsV]
/-- What the step leaves in a window. -/
theorem afterV_5 (c : Dev nD) (t : Fin cfg0.N) : (datsV m 0 c).after 5 t = yV (iblk m c 0 t) (w1 m c) (w2 m c) (w3 m c) (w4 m c) := by dsimp only [datsV]
/-- What the step leaves in a window. -/
theorem afterV_6 (c : Dev nD) (t : Fin cfg0.N) : (datsV m 0 c).after 6 t = qV (iblk m c 0 t) (w1 m c) := by dsimp only [datsV]
/-- What the step leaves in a window. -/
theorem afterV_7 (c : Dev nD) (t : Fin cfg0.N) : (datsV m 0 c).after 7 t = accV m c t.val := by dsimp only [datsV]

/-- What the step finds in a window. -/
theorem beforeV_0 (c : Dev nD) (t : Fin cfg0.N) (d) : (datsV m 0 c).before 0 t d = iblk m c 0 t :=
  before0_0_of m (datsV m 0 c) (datsV_A m c 0) (afterV_0 m c) t d
/-- What the step finds in a window. -/
theorem beforeV_1 (c : Dev nD) (t : Fin cfg0.N) (d) : (datsV m 0 c).before 1 t d = w1 m c :=
  (before0_1_of m (datsV m 0 c) (datsV_A m c 1) (afterV_1 m c) t d).trans (iblk1 m c t)
/-- The window still holds the whole array. -/
theorem afterW_1 (c : Dev nD) (t : Fin cfg0.N) : (datsV m 0 c).after 1 t = w1 m c := (afterV_1 m c t).trans (iblk1 m c t)
/-- What the step finds in a window. -/
theorem beforeV_2 (c : Dev nD) (t : Fin cfg0.N) (d) : (datsV m 0 c).before 2 t d = w2 m c :=
  (before0_2_of m (datsV m 0 c) (datsV_A m c 2) (afterV_2 m c) t d).trans (iblk2 m c t)
/-- The window still holds the whole array. -/
theorem afterW_2 (c : Dev nD) (t : Fin cfg0.N) : (datsV m 0 c).after 2 t = w2 m c := (afterV_2 m c t).trans (iblk2 m c t)
/-- What the step finds in a window. -/
theorem beforeV_3 (c : Dev nD) (t : Fin cfg0.N) (d) : (datsV m 0 c).before 3 t d = w3 m c :=
  (before0_3_of m (datsV m 0 c) (datsV_A m c 3) (afterV_3 m c) t d).trans (iblk3 m c t)
/-- The window still holds the whole array. -/
theorem afterW_3 (c : Dev nD) (t : Fin cfg0.N) : (datsV m 0 c).after 3 t = w3 m c := (afterV_3 m c t).trans (iblk3 m c t)
/-- What the step finds in a window. -/
theorem beforeV_4 (c : Dev nD) (t : Fin cfg0.N) (d) : (datsV m 0 c).before 4 t d = w4 m c :=
  (before0_4_of m (datsV m 0 c) (datsV_A m c 4) (afterV_4 m c) t d).trans (iblk4 m c t)
/-- The window still holds the whole array. -/
theorem afterW_4 (c : Dev nD) (t : Fin cfg0.N) : (datsV m 0 c).after 4 t = w4 m c := (afterV_4 m c t).trans (iblk4 m c t)
/-- After the first point the scales' buffer holds what the point before left. -/
theorem beforeV_7 (c : Dev nD) (t : Fin cfg0.N) (h0 : t.val ≠ 0) (d) : (datsV m 0 c).before 7 t d = accV m c (t.val - 1) := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [datsV]

/-- What the body is called with. -/
def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d)))

/-- What it returns. -/
def bodyPostV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t))

/-- The exponents are in range. -/
structure Good : Prop where
  hG : ∀ c, GeOk (w3 m c)

set_option maxHeartbeats 6400000 in
/-- The body at any point. -/
theorem sound_bodyV (hm : Good m) (c : Dev nD) (t : Fin cfg0.N) :
    bodyPreV m c t ⊢ wp frame (wpE (defs₀ (F := Idealize.ShloMosaic.Ideal)) Variants.none c none) Set.univ (bodyAt0 t) (fun _ => bodyPostV m c t) := by
  obtain ⟨hG⟩ := hm
  unfold bodyPreV bodyPostV bodyAt0
  simp only [beforeV_0, beforeV_1, beforeV_2, beforeV_3, beforeV_4]
  rw [show (datsV m 0 c).owesAt () t.succ = (datsV m 0 c).owesAt () t.castSucc from rfl,
    afterV_0, afterW_1, afterW_2, afterW_3, afterW_4, afterV_5, afterV_6, afterV_7]
  rw [show (datsV m 0 c).Φ t.succ = PhiV m c (t.val + 1) from rfl, PhiV_pos m c _ (Nat.succ_ne_zero _)]
  have hN : t.val < 32 := lt_of_lt_of_eq t.isLt (show cfg0.N = 32 from N_0)
  by_cases h0 : t.val % 32 = 0
  · have hz : t.val = 0 := by omega
    rw [PhiV_castSucc m c t, PhiV_zero m c _ hz, PhiA0_eq, accV_zero m c t hz]
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((valRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7)).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, ⟨%e5, H5⟩, ⟨%e6, H6⟩, ⟨%e7, H7⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7))).trans (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7) (hG c))
          isplitl [HS1]
          · unfold owns; iexists _; isplitr
            swap; · iexact HS1
            ipureintro; exact (View.read_writes_of_cover _ _ _ _ _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7))).trans (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7) (hG c))
          unfold owns; iexists _; isplitr
          swap; · iexact HS2
          ipureintro; exact (View.read_writes_of_cover _ _ _ _ _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7))).trans (sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7) (hG c))
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7))).trans (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7) (hG c))
      isplitl [H6]
      · unfold owns; iexists _; isplitr
        swap; · iexact H6
        ipureintro; exact (View.read_writes_of_cover _ _ _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7))).trans (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7) (hG c))
      unfold owns; iexists _; isplitr
      swap; · iexact H7
      ipureintro; exact (View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7))).trans (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (w1 m c) (w2 m c) (w3 m c) (w4 m c) ((datsV m 0 c).before 7 t d7) (hG c))
  · have hz : t.val ≠ 0 := by omega
    rw [PhiV_castSucc m c t, PhiV_pos m c _ hz, accV_pos m c t hz]
    · simp only [beforeV_7 m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((valRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (w1 m c) (w2 m c) (w3 m c) (w4 m c) (accV m c (t.val - 1)) (rotV (w1 m c)) (wV (w2 m c) (w3 m c)) (wscV (w4 m c))).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, ⟨%e5, H5⟩, ⟨%e6, H6⟩, H7, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (w1 m c) (w2 m c) (w3 m c) (w4 m c) (accV m c (t.val - 1)) (rotV (w1 m c)) (wV (w2 m c) (w3 m c)) (wscV (w4 m c)))).trans (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (w1 m c) (w2 m c) (w3 m c) (w4 m c) (accV m c (t.val - 1)) (hG c))
      isplitl [H6]
      · unfold owns; iexists _; isplitr
        swap; · iexact H6
        ipureintro; exact (View.read_writes_of_cover _ _ _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (w1 m c) (w2 m c) (w3 m c) (w4 m c) (accV m c (t.val - 1)) (rotV (w1 m c)) (wV (w2 m c) (w3 m c)) (wscV (w4 m c)))).trans (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (w1 m c) (w2 m c) (w3 m c) (w4 m c) (accV m c (t.val - 1)) (hG c))
      unfold owns; iexists _; isplitr
      swap; · iexact H7
      ipureintro; exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (w1 m c) (w2 m c) (w3 m c) (w4 m c) (accV m c (t.val - 1)) (hG c)

/-- The body table's row is the body. -/
theorem defs₀_rowV (t : Fin cfg0.N) :
    defs₀ (F := Idealize.ShloMosaic.Ideal) .tc cfg0.body (cfg0.bodyArgs t (cfg0.slots t)) = bodyAt0 t := by
  unfold defs₀; rw [Defs.onTc_tc]

/-- The body obligation, at every point. -/
theorem body_obligationV (hm : Good m) (c : Dev nD) : BodyObligation (datsV m 0 c) (defs₀ (F := Idealize.ShloMosaic.Ideal)) Variants.none () Set.univ := fun t => by
  rw [bigSep_W0, bigSep_W0, defs₀_rowV]
  exact triple_restated (sound_bodyV m hm c t) rfl .rfl fun _ => .rfl

/-- What the launch hands the region is the invariant before the first point. -/
theorem hinV (c : Dev nD) : Pipeline.ΦA spec0 c ⊢ (datsV m 0 c).Φ 0 := by
  rw [show (datsV m 0 c).Φ 0 = PhiV m c 0 from rfl, PhiV_zero m c 0 rfl]

/-- After the last point the invariant gives the region's resources back. -/
theorem houtV (c : Dev nD) : (datsV m 0 c).Φ (Fin.last cfg0.N) ⊢ Pipeline.ΦA spec0 c := by
  rw [show (datsV m 0 c).Φ (Fin.last cfg0.N) = PhiV m c (Fin.last cfg0.N).val from rfl, PhiV_pos m c _ (by rw [Fin.val_last]; have : cfg0.N = 32 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The launch: every array of the pipeline ends as the data say, and the lines after the region have run. -/
theorem run_mainV (hm : Good m) : θ_run defs (onTc (τ := τ) (main (F := Idealize.ShloMosaic.Ideal))) (s₀ m ρ) (fun r => (Pipeline.FramePost cfgs (datsV m) 0 (Pipeline.afterTail₀ cfgs (datsV m) 0 (V0 m) [hostOps1])) r ∧ r.2.sem = fun _ => 0) :=
  Pipeline.θ_run_frame_around_track (Q' := _) cfgs (datsV m) (0 : Fin 1) launch0 defs₀ Variants.none m ρ main
    (hbody := fun c => (body_obligationV m hm c).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := datsV_A m) (hin := hinV m) (hout := houtV m)

end Cert.KernelIdeal.Gen
end
-- ==== Proof.Val.Result.lean ====
/- The kernel's three result arrays, as functions of the arguments. -/
module

public import proofs.«01_k».proof.Proof.Val.Dats

@[expose] public section
set_option maxRecDepth 16384
noncomputable section

namespace Cert.KernelIdeal.Gen
open Idealize.ShloMosaic Idealize.ShloMosaic.TcCoe Idealize.ShloMosaic.Tactic
open Cert.Spec
open Idealize.ShloMosaic.Pipeline (Dat Cfg Window BodyObligation cellOf)

/-- One row of the activations. -/
def XE (X : Vec Idealize.ShloMosaic.Ideal S8x2048x1536 .bf16) (b s n : ℕ) : EReal :=
  X (ix3 ⟨b % 8, Nat.mod_lt _ (by decide)⟩ ⟨s % 2048, Nat.mod_lt _ (by decide)⟩ ⟨n % 1536, Nat.mod_lt _ (by decide)⟩)

/-- The weight of output channel `o` and column `n`, from the packed bytes and the exponents. -/
def WR (wp : Vec Idealize.ShloMosaic.Ideal S576x768 .i8) (ge : Vec Idealize.ShloMosaic.Ideal S576x12 .i8) (o : Fin 576) (n : ℕ) : ℝ :=
  (nibZ (if n < 768 then (wp (ix2 o ⟨n % 768, Nat.mod_lt _ (by decide)⟩)).toNat % 16 else (wp (ix2 o ⟨n % 768, Nat.mod_lt _ (by decide)⟩)).toNat / 16) : ℝ)
    * (2 : ℝ) ^ (-((ge (ix2 o ⟨n / 128 % 12, Nat.mod_lt _ (by decide)⟩)).toNat : ℤ))

/-- The first result, before its last transposition. -/
def res5 (X : Vec Idealize.ShloMosaic.Ideal S8x2048x1536 .bf16) (had : Vec Idealize.ShloMosaic.Ideal S24x24 .f32) (wp : Vec Idealize.ShloMosaic.Ideal S576x768 .i8) (ge : Vec Idealize.ShloMosaic.Ideal S576x12 .i8) (ws : Vec Idealize.ShloMosaic.Ideal S576 .f32) :
    Vec Idealize.ShloMosaic.Ideal S8x576x2048 .bf16 :=
  fun j => yR (WR wp ge (j 1)) (ws (ix1 (j 1 : Fin 576))) (XE X (j 0).val (j 2).val) (hE had)
/-- The codes. -/
def res6 (X : Vec Idealize.ShloMosaic.Ideal S8x2048x1536 .bf16) (had : Vec Idealize.ShloMosaic.Ideal S24x24 .f32) : Vec Idealize.ShloMosaic.Ideal S8x2048x1536 .i8 :=
  fun j => BitVec.ofInt 8 (codeE (XE X (j 0).val (j 1).val) (hE had) (j 2).val)
/-- The scales. -/
def res7 (X : Vec Idealize.ShloMosaic.Ideal S8x2048x1536 .bf16) (had : Vec Idealize.ShloMosaic.Ideal S24x24 .f32) : Vec Idealize.ShloMosaic.Ideal S8x2048 .f32 :=
  fun j => scaleE (XE X (j 0).val (j 1).val) (hE had)

variable (m : (ℓ : Loc nD τ sig) → Buf (Elt Idealize.ShloMosaic.Ideal) ℓ) (ρ : Dev nD → PrngReg)

/-- The arguments. -/
def g0 (c : Dev nD) : Vec Idealize.ShloMosaic.Ideal S8x2048x1536 .bf16 := m ((c : Thread nD τ).loc main_arg0)
def g1 (c : Dev nD) : Vec Idealize.ShloMosaic.Ideal S24x24 .f32 := m ((c : Thread nD τ).loc main_arg1)
def g2 (c : Dev nD) : Vec Idealize.ShloMosaic.Ideal S576x768 .i8 := m ((c : Thread nD τ).loc main_arg2)
def g3 (c : Dev nD) : Vec Idealize.ShloMosaic.Ideal S576x12 .i8 := m ((c : Thread nD τ).loc main_arg3)
def g4 (c : Dev nD) : Vec Idealize.ShloMosaic.Ideal S576 .f32 := m ((c : Thread nD τ).loc main_arg4)

/-- The block index of every window at every step. -/
theorem idxs : ∀ t : Fin cfg0.N, win0_0.index t = ![t.val / 4, t.val % 4, 0] ∧ win0_1.index t = ![0, 0] ∧ win0_2.index t = ![0, 0] ∧ win0_3.index t = ![0, 0] ∧ win0_4.index t = ![0, 0]
    ∧ win0_5.index t = ![t.val / 4, 0, t.val % 4] ∧ win0_6.index t = ![t.val / 4, t.val % 4, 0] :=
  (by decide +kernel : ∀ t : Fin grid0.N, _)
/-- The grid coordinates of every step. -/
theorem crds : ∀ t : Fin cfg0.N, (grid0.coords t 0).val = t.val / 4 ∧ (grid0.coords t 1).val = t.val % 4 :=
  (by decide +kernel : ∀ t : Fin grid0.N, _)

/-- An entry of the activations' block. -/
theorem iblk0_at (c : Dev nD) (t : Fin cfg0.N) (r : Fin 512) (n : Fin 1536) :
    iblk m c 0 t (ix3 0 r n) = g0 m c (ix3 (⟨t.val / 4, by have := t.isLt; have : cfg0.N = 32 := N_0; omega⟩ : Fin 8) (⟨512 * (t.val % 4) + r.val, by omega⟩ : Fin 2048) n) := by
  unfold g0
  blk_ext [iblk, V, idxs t]
/-- The small matrix is the argument. -/
theorem w1_at (c : Dev nD) : w1 m c = g1 m c := by
  funext j
  unfold w1 g1
  blk_ext [iblk, V, idxs z0]
/-- The packed weights are the argument. -/
theorem w2_at (c : Dev nD) : w2 m c = g2 m c := by
  funext j
  unfold w2 g2
  blk_ext [iblk, V, idxs z0]
/-- The transposed exponents the host hands to the kernel. -/
theorem V_v0 (c : Dev nD) : V m c main_v0 = (transpose S12x576 [1, 0] (g3 m c) transposes_S576x12_S12x576_1_0 : Vec Idealize.ShloMosaic.Ideal S12x576 .i8) := by
  show StableHlo.after [hostOps0].flatten _ _ = _
  simp only [List.flatten_cons, List.flatten_nil, List.append_nil, hostOps0]
  after_results
  rfl
/-- The scales of the weights as a row. -/
theorem V_v1 (c : Dev nD) : V m c main_v1 = (shapeCast S1x576 (g4 m c) rfl : Vec Idealize.ShloMosaic.Ideal S1x576 .f32) := by
  show StableHlo.after [hostOps0].flatten _ _ = _
  simp only [List.flatten_cons, List.flatten_nil, List.append_nil, hostOps0]
  after_results
  rfl
/-- The exponents are the argument, transposed. -/
theorem w3_at (c : Dev nD) (k : Fin 12) (o : Fin 576) : w3 m c (ix2 k o) = g3 m c (ix2 o k) := by
  have e : w3 m c (ix2 k o) = V m c main_v0 (ix2 k o) := by
    unfold w3
    blk_ext [iblk, idxs z0]
  rw [e, V_v0]
  pointwise
/-- The weight scales are the argument, reshaped. -/
theorem w4_at (c : Dev nD) (o : Fin 576) : w4 m c (ix2 0 o) = g4 m c (ix1 o) := by
  have e : w4 m c (ix2 0 o) = V m c main_v1 (ix2 0 o) := by
    unfold w4
    blk_ext [iblk, idxs z0]
  rw [e, V_v1]
  pointwise

/-- A block's row is the array's row. -/
theorem xrow_eq (c : Dev nD) (t : Fin cfg0.N) (r : ℕ) (hr : r < 512) : xrow (iblk m c 0 t) r = XE (g0 m c) (t.val / 4) (512 * (t.val % 4) + r) := by
  have hN : t.val < 32 := lt_of_lt_of_eq t.isLt (show cfg0.N = 32 from N_0)
  funext n
  refine (iblk0_at m c t _ _).trans (congrArg (g0 m c) ?_)
  funext a
  apply Fin.ext
  fin_cases a
  · show t.val / 4 = t.val / 4 % 8
    omega
  · show 512 * (t.val % 4) + r % 512 = (512 * (t.val % 4) + r) % 2048
    omega
  · rfl

/-- The weights in the scratch are the weights of the arguments. -/
theorem wRk_eq (c : Dev nD) (o : Fin 576) : wRk (w2 m c) (w3 m c) o = WR (g2 m c) (g3 m c) o := by
  funext n
  unfold wRk WR
  rw [w2_at, w3_at]

/-- The scales after each point. -/
theorem accV_at (c : Dev nD) : ∀ (n : ℕ) (t : Fin cfg0.N), t.val = n → ∀ (b : Fin 8) (s : Fin 2048), accV m c t.val (ix2 b s)
    = if 4 * b.val + s.val / 512 ≤ n then scaleE (XE (g0 m c) b.val s.val) (hE (g1 m c)) else 0
  | n, t, ht, b, s => by
    have hN : t.val < 32 := lt_of_lt_of_eq t.isLt (show cfg0.N = 32 from N_0)
    have hs := s.isLt
    have hb := b.isLt
    obtain ⟨e0, e1⟩ := crds t
    have key : ∀ B : Vec Idealize.ShloMosaic.Ideal S8x2048 .f32, aV (grid0.coords t) (iblk m c 0 t) (w1 m c) B (ix2 b s)
        = if 4 * b.val + s.val / 512 = t.val then scaleE (XE (g0 m c) b.val s.val) (hE (g1 m c)) else B (ix2 b s) := by
      intro B
      show (if b.val = (grid0.coords t 0).val ∧ (grid0.coords t 1).val * 512 ≤ s.val ∧ s.val < (grid0.coords t 1).val * 512 + 512
        then scaleE (xrow (iblk m c 0 t) (s.val - (grid0.coords t 1).val * 512)) (hE (w1 m c)) else B (ix2 b s)) = _
      rw [e0, e1, w1_at]
      by_cases h : 4 * b.val + s.val / 512 = t.val
      · rw [if_pos h, if_pos (by omega), xrow_eq m c t _ (by omega), show t.val / 4 = b.val by omega, show 512 * (t.val % 4) + (s.val - t.val % 4 * 512) = s.val by omega]
      · rw [if_neg h, if_neg (by omega)]
    cases n with
    | zero =>
      rw [accV_zero m c t ht, key, ht]
      exact if_congr (by omega) rfl rfl
    | succ n =>
      rw [accV_pos m c t (by omega), key]
      have ih := accV_at c n ⟨t.val - 1, by have := t.isLt; omega⟩ (by show t.val - 1 = n; omega) b s
      rw [show accV m c (t.val - 1) (ix2 b s) = _ from ih, ht]
      by_cases h : 4 * b.val + s.val / 512 = n + 1
      · rw [if_pos h, if_pos (by omega)]
      · rw [if_neg h]
        exact if_congr (by omega) rfl rfl

/-- The last point. -/
def zL : Fin cfg0.N := ⟨31, by rw [show cfg0.N = 32 from N_0]; decide⟩

/-- The output array at the end. -/
theorem arr5 (c : Dev nD) : (datsV m 0 c).arrAt 5 cfg0.N = res5 (g0 m c) (g1 m c) (g2 m c) (g3 m c) (g4 m c) := by
  refine (datsV m 0 c).arrAt_eq_of_covers 5 _ (by decide +kernel) fun t hf y => ?_
  blk_simp
  rw [afterV_5]
  obtain ⟨a, o, s, rfl⟩ : ∃ (a : Fin 1) (b : Fin 576) (c : Fin 512), y = ix3 a b c := ⟨y 0, y 1, y 2, by funext i; fin_cases i <;> rfl⟩
  have hN : t.val < 32 := lt_of_lt_of_eq t.isLt (show cfg0.N = 32 from N_0)
  have e : (win0_5.blk t).view.emb (ix3 a o s) = (ix3 (⟨t.val / 4, by omega⟩ : Fin 8) o (⟨512 * (t.val % 4) + s.val, by omega⟩ : Fin 2048) : S8x576x2048.Idx) := by
    blk_ext [idxs t]
  rw [e]
  show yR (wRk (w2 m c) (w3 m c) o) (w4 m c (ix2 0 o)) (xrow (iblk m c 0 t) s.val) (hE (w1 m c)) = yR (WR (g2 m c) (g3 m c) o) (g4 m c (ix1 o)) (XE (g0 m c) (t.val / 4) (512 * (t.val % 4) + s.val)) (hE (g1 m c))
  rw [wRk_eq, w4_at, w1_at, xrow_eq m c t _ s.isLt]

/-- The array of codes at the end. -/
theorem arr6 (c : Dev nD) : (datsV m 0 c).arrAt 6 cfg0.N = res6 (g0 m c) (g1 m c) := by
  refine (datsV m 0 c).arrAt_eq_of_covers 6 _ (by decide +kernel) fun t hf y => ?_
  blk_simp
  rw [afterV_6]
  obtain ⟨a, s, n, rfl⟩ : ∃ (a : Fin 1) (b : Fin 512) (c : Fin 1536), y = ix3 a b c := ⟨y 0, y 1, y 2, by funext i; fin_cases i <;> rfl⟩
  have hN : t.val < 32 := lt_of_lt_of_eq t.isLt (show cfg0.N = 32 from N_0)
  have e : (win0_6.blk t).view.emb (ix3 a s n) = (ix3 (⟨t.val / 4, by omega⟩ : Fin 8) (⟨512 * (t.val % 4) + s.val, by omega⟩ : Fin 2048) n : S8x2048x1536.Idx) := by
    blk_ext [idxs t]
  rw [e]
  show BitVec.ofInt 8 (codeE (xrow (iblk m c 0 t) s.val) (hE (w1 m c)) n.val) = BitVec.ofInt 8 (codeE (XE (g0 m c) (t.val / 4) (512 * (t.val % 4) + s.val)) (hE (g1 m c)) n.val)
  rw [w1_at, xrow_eq m c t _ s.isLt]

/-- The array of scales at the end. -/
theorem arr7 (c : Dev nD) : (datsV m 0 c).arrAt 7 cfg0.N = res7 (g0 m c) (g1 m c) := by
  refine (datsV m 0 c).arrAt_eq_of_after_last 7 zL (by decide +kernel) _ fun j => ?_
  blk_simp
  rw [afterV_7]
  obtain ⟨b, s, rfl⟩ : ∃ (b : Fin 8) (s : Fin 2048), j = ix2 b s := ⟨j 0, j 1, by funext i; fin_cases i <;> rfl⟩
  refine (accV_at m c 31 zL rfl b s).trans ?_
  rw [if_pos (by omega)]
  rfl

/-- The first result after the host's last transposition. -/
theorem tail3 (c : Dev nD) : Pipeline.afterTail₀ cfgs (datsV m) 0 (V0 m) [hostOps1] c main_v3
    = (transpose S8x2048x576 [0, 2, 1] (res5 (g0 m c) (g1 m c) (g2 m c) (g3 m c) (g4 m c)) transposes_S8x576x2048_S8x2048x576_0_2_1 : Vec Idealize.ShloMosaic.Ideal S8x2048x576 .bf16) := by
  unfold Pipeline.afterTail₀
  simp only [List.flatten_cons, List.flatten_nil, List.append_nil, hostOps1]
  after_results
  refine congrArg (fun z => transpose S8x2048x576 [0, 2, 1] z transposes_S8x576x2048_S8x2048x576_0_2_1) ?_
  refine Eq.trans ?_ (arr5 m c)
  exact Pipeline.withArrays_arr _ launch0.win.arr_inj c (V0 m c) _ 5

/-- Every execution of the kernel ends with the three results as stated. -/
theorem runK (hm : Good m) : θ_run defs (onTc main) (s₀ m ρ) (fun r => ∀ c : Dev nD,
    (r.2.mem ((c : Thread nD τ).loc main_v3) = (transpose S8x2048x576 [0, 2, 1] (res5 (g0 m c) (g1 m c) (g2 m c) (g3 m c) (g4 m c)) transposes_S8x576x2048_S8x2048x576_0_2_1 : Vec Idealize.ShloMosaic.Ideal S8x2048x576 .bf16)
      ∧ r.2.mem ((c : Thread nD τ).loc main_v2_1) = res6 (g0 m c) (g1 m c)
      ∧ r.2.mem ((c : Thread nD τ).loc main_v2_2) = res7 (g0 m c) (g1 m c))) := by
  run_from (θ_run_mono (run_mainV m ρ hm) (fun r h => h.1))
  · exact tail3 m c
  · exact arr6 m c
  · exact arr7 m c

end Cert.KernelIdeal.Gen
end
-- ==== Proof.Val.Orth.lean ====
/- The Walsh-Hadamard matrix loses nothing: a vector all of whose transforms are zero is zero. -/
module

public import proofs.«01_k».proof.Proof.Val.Math

@[expose] public section
noncomputable section

namespace Cert.Spec
open Finset

/-- The columns of the Walsh-Hadamard matrix are orthogonal. -/
theorem sg_orth : ∀ p p' : Fin 64, ∑ q ∈ range 64, sg q p.val * sg q p'.val = if p = p' then 64 else 0 := by
  decide +kernel

/-- A vector whose transforms are all zero is zero. -/
theorem sg_inj (x : ℕ → ℝ) (hx : ∀ q < 64, ∑ p ∈ range 64, x p * (sg q p : ℝ) = 0) (p : ℕ) (hp : p < 64) : x p = 0 := by
  have e : ∑ q ∈ range 64, (sg q p : ℝ) * ∑ p' ∈ range 64, x p' * (sg q p' : ℝ) = 64 * x p := by
    simp only [mul_sum]
    rw [sum_comm]
    have h : ∀ p' ∈ range 64, ∑ q ∈ range 64, (sg q p : ℝ) * (x p' * (sg q p' : ℝ)) = if p = p' then 64 * x p else 0 := by
      intro p' hp'
      have o := congrArg (fun z : ℤ => (z : ℝ)) (sg_orth ⟨p, hp⟩ ⟨p', mem_range.1 hp'⟩)
      simp only [Int.cast_sum, Int.cast_mul, Fin.mk.injEq] at o
      have : ∀ q ∈ range 64, (sg q p : ℝ) * (x p' * (sg q p' : ℝ)) = x p' * ((sg q p : ℝ) * (sg q p' : ℝ)) := fun q _ => by ring
      rw [sum_congr rfl this, ← mul_sum, o]
      by_cases hh : p = p'
      · rw [if_pos hh, if_pos hh, hh]; push_cast; ring
      · rw [if_neg hh, if_neg hh]; simp
    rw [sum_congr rfl h, sum_ite_eq, if_pos (mem_range.2 hp)]
  have z : ∑ q ∈ range 64, (sg q p : ℝ) * ∑ p' ∈ range 64, x p' * (sg q p' : ℝ) = 0 :=
    sum_eq_zero fun q hq => by rw [hx q (mem_range.1 hq), mul_zero]
  linarith

end Cert.Spec
end
-- ==== Proof.Val.Stage.lean ====
/- The reference's two stages on rows that may hold infinities. -/
module

public import proofs.«01_k».proof.Proof.Val.Ext
public import proofs.«01_k».proof.Proof.Val.Orth

@[expose] public section
noncomputable section

namespace Cert.Spec
open Finset

/-- The first stage: place `k` of every block, transformed. -/
def tE (x : ℕ → EReal) (k q : ℕ) : EReal := ∑ p : Fin 64, x (p.val * 24 + k) * (((sg q p.val : ℤ) : ℝ) : EReal)

/-- A sign is not zero. -/
theorem sg_ne (q p : ℕ) : (((sg q p : ℤ) : ℝ) : EReal) ≠ 0 := by
  intro h
  have h := EReal.coe_eq_zero.1 h
  unfold sg at h
  split_ifs at h <;> simp at h

/-- The first stage of numbers. -/
theorem tE_coe (x : ℕ → EReal) (k q : ℕ) (hx : ∀ p : Fin 64, ¬ Inf (x (p.val * 24 + k))) :
    tE x k q = ((∑ p ∈ range 64, re1 x (p * 24 + k) * (sg q p : ℝ) : ℝ) : EReal) := by
  rw [← coe_sum (n := 64) fun p => re1 x (p * 24 + k) * (sg q p : ℝ)]
  refine Finset.sum_congr rfl fun p _ => ?_
  rw [EReal.coe_mul]
  exact congrArg (· * _) (coe_of_not_inf _ (hx p))

/-- The first stage of a column with an infinity. -/
theorem tE_inf (x : ℕ → EReal) (k q : ℕ) (p : Fin 64) (hx : Inf (x (p.val * 24 + k))) : Inf (tE x k q) :=
  inf_sum _ p (inf_mul_left _ _ hx (sg_ne q p.val))

/-- A term of the second stage, in a finite row, is the real one. -/
theorem tE_term {x : ℕ → EReal} {h : ℕ → ℕ → EReal} (hp : Plain x h) (k j q : ℕ) (hk : k < 24) (hj : j < 24) :
    tE x k q * h j k = (((∑ p ∈ range 64, re1 x (p * 24 + k) * (sg q p : ℝ)) * re2 h j k : ℝ) : EReal) := by
  have hf : ∀ p : Fin 64, ¬ Inf (x (p.val * 24 + k) * h j k) := by
    intro p
    have := hp (p.val * 24 + k) (by omega) j hj
    rwa [show (p.val * 24 + k) % 24 = k by omega] at this
  by_cases h0 : h j k = 0
  · unfold re2
    rw [h0, mul_zero, EReal.toReal_zero, mul_zero, EReal.coe_zero]
  · have hx : ∀ p : Fin 64, ¬ Inf (x (p.val * 24 + k)) := fun p hi => hf p (inf_mul_left _ _ hi h0)
    rw [tE_coe x k q hx]
    by_cases hh : Inf (h j k)
    · have hz : ∀ p ∈ range 64, re1 x (p * 24 + k) * (sg q p : ℝ) = 0 := by
        intro p hpr
        have e : x (p * 24 + k) = 0 := by
          by_contra hn
          exact hf ⟨p, mem_range.1 hpr⟩ (inf_mul_right _ _ hh hn)
        unfold re1
        rw [e, EReal.toReal_zero, zero_mul]
      rw [sum_eq_zero hz, zero_mul, EReal.coe_zero, zero_mul]
    · rw [EReal.coe_mul]
      exact congrArg (_ * ·) (coe_of_not_inf _ hh)

/-- In a row that is not finite some rotated entry is infinite. -/
theorem tE_some {x : ℕ → EReal} {h : ℕ → ℕ → EReal} (hp : ¬ Plain x h) : ∃ (q : Fin 64) (j : Fin 24), Inf (∑ k : Fin 24, tE x k.val q.val * h j.val k.val) := by
  unfold Plain at hp
  push Not at hp
  obtain ⟨i, hi, j, hj, hf⟩ := hp
  obtain ⟨ho, hx0, hh0⟩ := inf_mul _ _ hf
  suffices hq : ∃ q : Fin 64, Inf (tE x (i % 24) q.val * h j (i % 24)) by
    obtain ⟨q, hq⟩ := hq
    exact ⟨q, ⟨j, hj⟩, inf_sum (fun k : Fin 24 => tE x k.val q.val * h j k.val) ⟨i % 24, by omega⟩ hq⟩
  by_cases hx : ∃ p : Fin 64, Inf (x (p.val * 24 + i % 24))
  · obtain ⟨p, hpi⟩ := hx
    exact ⟨0, inf_mul_left _ _ (tE_inf x _ _ p hpi) hh0⟩
  · push Not at hx
    have ei : i / 24 * 24 + i % 24 = i := Nat.div_add_mod' i 24
    have hxi : ¬ Inf (x i) := by
      have := hx ⟨i / 24, by omega⟩
      rwa [show (⟨i / 24, by omega⟩ : Fin 64).val * 24 + i % 24 = i from ei] at this
    have hh : Inf (h j (i % 24)) := ho.resolve_left hxi
    by_contra hn
    push Not at hn
    have hz : ∀ q < 64, ∑ p ∈ range 64, re1 x (p * 24 + i % 24) * (sg q p : ℝ) = 0 := by
      intro q hq
      by_contra hne
      refine hn ⟨q, hq⟩ (inf_mul_right _ _ hh ?_)
      rw [tE_coe x (i % 24) q hx]
      exact fun H => hne (EReal.coe_eq_zero.1 H)
    have := sg_inj (fun p => re1 x (p * 24 + i % 24)) hz (i / 24) (by omega)
    refine hx0 ?_
    rw [coe_of_not_inf _ hxi]
    have e : re1 x (i / 24 * 24 + i % 24) = 0 := this
    rw [ei] at e
    unfold re1 at e
    rw [e, EReal.coe_zero]

end Cert.Spec
end
-- ==== Proof.Val.Ref.lean ====
/- The reference's rotation, scales and codes, as functions of the arguments. -/
module

public import proofs.«01_k».proof.Proof.Val.Result
public import proofs.«01_k».proof.Proof.Val.Stage
public import proofs.«01_k».proof.Proof.Gen.ReferenceIdeal.Run

@[expose] public section
set_option maxRecDepth 16384
noncomputable section

namespace Cert.ReferenceIdeal.Value
open Idealize.ShloMosaic Idealize.ShloMosaic.TcCoe Idealize.ShloMosaic.Tactic
open Cert.ReferenceIdeal Cert.ReferenceIdeal.Gen Cert.Spec Finset
open Cert.KernelIdeal.Gen (XE WR hE hE_at nibZ nib_lo nib_hi yR absf_coe)

/-- The signs of the Walsh–Hadamard matrix. -/
def refS : FVec Idealize.ShloMosaic.Ideal S64x64 .f32 :=
  sitofp .f32 (subi (broadcastInDim S64x64 ![] bcast_S_S64x64 (constantI S_ 32 1#32)) (muli (broadcastInDim S64x64 ![] bcast_S_S64x64 (constantI S_ 32 2#32)) (andi (ctpop (andi (iotaInDim S64x64 32 0) (iotaInDim S64x64 32 1))) (broadcastInDim S64x64 ![] bcast_S_S64x64 (constantI S_ 32 1#32)))))
/-- The first stage of the rotation. -/
def refT (X : FVec Idealize.ShloMosaic.Ideal S8x2048x1536 .bf16) : FVec Idealize.ShloMosaic.Ideal S8x2048x24x64 .f32 :=
  Host.dotGeneral dot_S8x2048x64x24_S64x64_S8x2048x24x64_2_1_013_0_n_n (some .fp32) (shapeCast _ (extf .f32 X bitsLt_bf16_f32) shapeCasts_S8x2048x1536_S8x2048x64x24) refS
/-- The second stage. -/
def refU (X : FVec Idealize.ShloMosaic.Ideal S8x2048x1536 .bf16) (H : FVec Idealize.ShloMosaic.Ideal S24x24 .f32) : FVec Idealize.ShloMosaic.Ideal S8x2048x64x24 .f32 :=
  Host.dotGeneral dot_S8x2048x64x24_S24x24_S8x2048x64x24_3_1_012_0_n_n (some .fp32) (transpose S8x2048x64x24 [0, 1, 3, 2] (refT X) transposes_S8x2048x24x64_S8x2048x64x24_0_1_3_2) H
/-- The rotated rows. -/
def refR (X : FVec Idealize.ShloMosaic.Ideal S8x2048x1536 .bf16) (H : FVec Idealize.ShloMosaic.Ideal S24x24 .f32) : FVec Idealize.ShloMosaic.Ideal S8x2048x1536 .f32 :=
  shapeCast _ (mulf (refU X H) (broadcastInDim S8x2048x64x24 ![] bcast_S_S8x2048x64x24 (constant S_ .f32 0x3CD105EC#32))) shapeCasts_S8x2048x64x24_S8x2048x1536
/-- The largest magnitude of each row. -/
def refM (X : FVec Idealize.ShloMosaic.Ideal S8x2048x1536 .bf16) (H : FVec Idealize.ShloMosaic.Ideal S24x24 .f32) : FVec Idealize.ShloMosaic.Ideal S8x2048 .f32 :=
  Host.reduce FloatOps.maximumf (Host.absf (refR X H)) (constant S_ .f32 0xFF800000#32) reducesTo_S8x2048x1536_S8x2048_d2 h_S_
/-- The scale, from the largest magnitudes. -/
def sclF (M : FVec Idealize.ShloMosaic.Ideal S8x2048 .f32) : FVec Idealize.ShloMosaic.Ideal S8x2048 .f32 :=
  select (cmpf .oeq M (broadcastInDim S8x2048 ![] bcast_S_S8x2048 (constant S_ .f32 0x00000000#32))) (broadcastInDim S8x2048 ![] bcast_S_S8x2048 (constant S_ .f32 0x3F800000#32)) (Host.divf M (broadcastInDim S8x2048 ![] bcast_S_S8x2048 (constant S_ .f32 0x40E00000#32)))
/-- The codes, from the rows and their scales. -/
def quaF (R : FVec Idealize.ShloMosaic.Ideal S8x2048x1536 .f32) (A : FVec Idealize.ShloMosaic.Ideal S8x2048 .f32) : IVec S8x2048x1536 8 :=
  trunci 8 (fptosi 32 (minimumf (broadcastInDim S8x2048x1536 ![] bcast_S_S8x2048x1536 (id (constant S_ .f32 0x40E00000#32))) (maximumf (broadcastInDim S8x2048x1536 ![] bcast_S_S8x2048x1536 (id (constant S_ .f32 0xC0E00000#32))) (Host.roundeven (Host.divf R (broadcastInDim S8x2048x1536 ![0, 1, 2] bcast_S8x2048x1_S8x2048x1536_0_1_2 (broadcastInDim S8x2048x1 ![0, 1] bcast_S8x2048_S8x2048x1_0_1 A))))))) natLt_8_32
/-- The scale of each row. -/
def refA (X : FVec Idealize.ShloMosaic.Ideal S8x2048x1536 .bf16) (H : FVec Idealize.ShloMosaic.Ideal S24x24 .f32) : FVec Idealize.ShloMosaic.Ideal S8x2048 .f32 := sclF (refM X H)
/-- The codes. -/
def refQ (X : FVec Idealize.ShloMosaic.Ideal S8x2048x1536 .bf16) (H : FVec Idealize.ShloMosaic.Ideal S24x24 .f32) : IVec S8x2048x1536 8 := quaF (refR X H) (refA X H)

/-- An activation, by its place in its row. -/
theorem XE_at (X : FVec Idealize.ShloMosaic.Ideal S8x2048x1536 .bf16) (b : Fin 8) (s : Fin 2048) (n : Fin 1536) :
    X (ix3 b s n) = XE X b.val s.val n.val := by
  have e : ix3 (⟨b.val % 8, Nat.mod_lt _ (by decide)⟩ : Fin 8) (⟨s.val % 2048, Nat.mod_lt _ (by decide)⟩ : Fin 2048) (⟨n.val % 1536, Nat.mod_lt _ (by decide)⟩ : Fin 1536) = ix3 b s n := by
    rw [show (⟨b.val % 8, Nat.mod_lt _ (by decide)⟩ : Fin 8) = b from Fin.ext (Nat.mod_eq_of_lt b.isLt),
      show (⟨s.val % 2048, Nat.mod_lt _ (by decide)⟩ : Fin 2048) = s from Fin.ext (Nat.mod_eq_of_lt s.isLt),
      show (⟨n.val % 1536, Nat.mod_lt _ (by decide)⟩ : Fin 1536) = n from Fin.ext (Nat.mod_eq_of_lt n.isLt)]
  unfold XE
  rw [e]

/-- The sign by the parity of the shared bits. -/
theorem sgn_all : ∀ q p : Fin 64, (1#32 - 2#32 * (IntOp.ctpop (BitVec.ofNat 32 q.val &&& BitVec.ofNat 32 p.val) &&& 1#32)).toInt = sg q.val p.val := by
  decide +kernel

/-- An entry of the Walsh-Hadamard matrix. -/
theorem refS_at (q p : Fin 64) : refS (ix2 q p) = (((sg q.val p.val : ℤ) : ℝ) : EReal) := by
  pointwise [refS]
  exact congrArg (fun z : ℤ => ((z : ℝ) : EReal)) (sgn_all q p)

/-- The first stage at an index. -/
theorem refT_at (X : FVec Idealize.ShloMosaic.Ideal S8x2048x1536 .bf16) (b : Fin 8) (s : Fin 2048) (k : Fin 24) (q : Fin 64) :
    refT X (ix4 b s k q) = tE (XE X b.val s.val) k.val q.val := by
  pointwise [refT]
  refine Finset.sum_congr rfl fun p _ => ?_
  rw [refS_at, XE_at X]

/-- The second stage at an index. -/
theorem refU_at (X : FVec Idealize.ShloMosaic.Ideal S8x2048x1536 .bf16) (H : FVec Idealize.ShloMosaic.Ideal S24x24 .f32) (b : Fin 8) (s : Fin 2048) (q : Fin 64) (j : Fin 24) :
    refU X H (ix4 b s q j) = ∑ k : Fin 24, tE (XE X b.val s.val) k.val q.val * hE H j.val k.val := by
  pointwise [refU]
  refine Finset.sum_congr rfl fun k _ => ?_
  rw [refT_at X, hE_at H]

/-- The two stages are the one plain sum. -/
theorem two_stage (x : ℕ → ℝ) (h : ℕ → ℕ → ℝ) (n : ℕ) :
    ∑ k ∈ range 24, (∑ p ∈ range 64, x (p * 24 + k) * (sg (n / 24) p : ℝ)) * h (n % 24) k = rotU x h n := by
  unfold rotU
  have e : ∀ i, (sg (n / 24) (i / 24) : ℝ) * h (n % 24) (i % 24) * x i = (fun p k => (sg (n / 24) p : ℝ) * h (n % 24) k * x (p * 24 + k)) (i / 24) (i % 24) := by
    intro i
    show _ = (sg (n / 24) (i / 24) : ℝ) * h (n % 24) (i % 24) * x (i / 24 * 24 + i % 24)
    rw [Nat.div_add_mod']
  rw [Finset.sum_congr rfl fun i _ => e i, show (1536 : ℕ) = 64 * 24 from rfl,
    sum_blocks (fun p k => (sg (n / 24) p : ℝ) * h (n % 24) k * x (p * 24 + k)) 64, Finset.sum_comm]
  refine Finset.sum_congr rfl fun k _ => ?_
  rw [Finset.sum_mul]
  exact Finset.sum_congr rfl fun p _ => by ring

/-- The rotated rows at an index, as the two stages. -/
theorem refR_sum (X : FVec Idealize.ShloMosaic.Ideal S8x2048x1536 .bf16) (H : FVec Idealize.ShloMosaic.Ideal S24x24 .f32) (b : Fin 8) (s : Fin 2048) (n : Fin 1536) :
    refR X H (ix3 b s n) = (∑ k : Fin 24, tE (XE X b.val s.val) k.val (n.val / 24) * hE H (n.val % 24) k.val) * ((cR : ℝ) : EReal) := by
  pointwise [refR]
  rw [cR_bits, refU_at X H]

/-- The rotated rows at an index, in a finite row. -/
theorem refR_at (X : FVec Idealize.ShloMosaic.Ideal S8x2048x1536 .bf16) (H : FVec Idealize.ShloMosaic.Ideal S24x24 .f32) (b : Fin 8) (s : Fin 2048) (hp : Plain (XE X b.val s.val) (hE H)) (n : Fin 1536) :
    refR X H (ix3 b s n) = ((rotU (re1 (XE X b.val s.val)) (re2 (hE H)) n.val * cR : ℝ) : EReal) := by
  rw [refR_sum X H, EReal.coe_mul, ← two_stage, ← coe_sum (n := 24) fun k => (∑ p ∈ range 64, re1 (XE X b.val s.val) (p * 24 + k) * (sg (n.val / 24) p : ℝ)) * re2 (hE H) (n.val % 24) k]
  exact congrArg (· * ((cR : ℝ) : EReal)) (Finset.sum_congr rfl fun k _ => tE_term hp k.val (n.val % 24) (n.val / 24) k.isLt (Nat.mod_lt _ (by decide)))

/-- An infinity of the rotated row, in a row that is not finite. -/
theorem refR_inf (X : FVec Idealize.ShloMosaic.Ideal S8x2048x1536 .bf16) (H : FVec Idealize.ShloMosaic.Ideal S24x24 .f32) (b : Fin 8) (s : Fin 2048) (hp : ¬ Plain (XE X b.val s.val) (hE H)) :
    ∃ n : Fin 1536, Inf (refR X H (ix3 b s n)) := by
  obtain ⟨q, j, hi⟩ := tE_some hp
  refine ⟨⟨24 * q.val + j.val, by omega⟩, ?_⟩
  rw [refR_sum X H]
  refine inf_mul_left _ _ ?_ (fun h => cR_pos.ne' (EReal.coe_eq_zero.1 h))
  have e1 : (24 * q.val + j.val) / 24 = q.val := by omega
  have e2 : (24 * q.val + j.val) % 24 = j.val := by omega
  show Inf (∑ k : Fin 24, tE (XE X b.val s.val) k.val ((24 * q.val + j.val) / 24) * hE H ((24 * q.val + j.val) % 24) k.val)
  rw [e1, e2]
  exact hi

/-- The largest magnitude of a finite row. -/
theorem refM_at (X : FVec Idealize.ShloMosaic.Ideal S8x2048x1536 .bf16) (H : FVec Idealize.ShloMosaic.Ideal S24x24 .f32) (b : Fin 8) (s : Fin 2048) (hp : Plain (XE X b.val s.val) (hE H)) :
    refM X H (ix2 b s) = ((maxU (re1 (XE X b.val s.val)) (re2 (hE H)) * cR : ℝ) : EReal) := by
  pointwise [refM]
  have e : ∀ n : Fin 1536, FloatOps.absf (F := Idealize.ShloMosaic.Ideal) (φ := .f32) (refR X H (ix3 b s n)) = ((|rotU (re1 (XE X b.val s.val)) (re2 (hE H)) n.val| * cR : ℝ) : EReal) := by
    intro n
    rw [refR_at X H b s hp, absf_coe, abs_mul, abs_of_pos cR_pos]
  simp only [e]
  rw [ninf_bits]
  apply le_antisymm
  · rw [Finset.fold_max_le]
    exact ⟨bot_le, fun n _ => EReal.coe_le_coe_iff.2 (mul_le_mul_of_nonneg_right (le_maxU _ _ _ n.isLt) cR_pos.le)⟩
  · obtain ⟨n, hn, e'⟩ := maxU_eq (re1 (XE X b.val s.val)) (re2 (hE H))
    rw [e', Finset.le_fold_max]
    exact Or.inr ⟨⟨n, hn⟩, Finset.mem_univ _, le_rfl⟩

/-- The largest magnitude of a row that is not finite. -/
theorem refM_inf (X : FVec Idealize.ShloMosaic.Ideal S8x2048x1536 .bf16) (H : FVec Idealize.ShloMosaic.Ideal S24x24 .f32) (b : Fin 8) (s : Fin 2048) (hp : ¬ Plain (XE X b.val s.val) (hE H)) :
    refM X H (ix2 b s) = (⊤ : EReal) := by
  pointwise [refM]
  rw [ninf_bits]
  obtain ⟨n, hn⟩ := refR_inf X H b s hp
  refine top_le_iff.1 ?_
  rw [Finset.le_fold_max]
  exact Or.inr ⟨n, Finset.mem_univ _, (inf_abs _ hn).ge⟩

/-- An entry of the scale. -/
theorem sclF_at (M : FVec Idealize.ShloMosaic.Ideal S8x2048 .f32) (b : Fin 8) (s : Fin 2048) :
    sclF M (ix2 b s) = (if M (ix2 b s) = (0 : EReal) then (1 : EReal) else Ideal.div (M (ix2 b s)) (Ideal.ofBits .f32 0x40E00000#32)) := by
  pointwise [sclF]

/-- The scale of a row. -/
theorem refA_at (X : FVec Idealize.ShloMosaic.Ideal S8x2048x1536 .bf16) (H : FVec Idealize.ShloMosaic.Ideal S24x24 .f32) (b : Fin 8) (s : Fin 2048) :
    refA X H (ix2 b s) = scaleE (XE X b.val s.val) (hE H) := by
  refine (sclF_at (refM X H) b s).trans ?_
  by_cases hp : Plain (XE X b.val s.val) (hE H)
  · rw [refM_at X H b s hp, seven_bits, scale_eq, scaleE_pos hp]
  · rw [refM_inf X H b s hp, seven_bits, scale_top, scaleE_neg hp]

/-- An entry of the codes. -/
theorem quaF_at (R : FVec Idealize.ShloMosaic.Ideal S8x2048x1536 .f32) (A : FVec Idealize.ShloMosaic.Ideal S8x2048 .f32) (b : Fin 8) (s : Fin 2048) (n : Fin 1536) :
    quaF R A (ix3 b s n) = (Ideal.fptosi 32 (min (Ideal.ofBits .f32 0x40E00000#32) (max (Ideal.ofBits .f32 0xC0E00000#32)
      (Ideal.liftRound Ideal.roundHalfEven (Ideal.div (R (ix3 b s n)) (A (ix2 b s))))))).setWidth 8 := by
  pointwise [quaF]
  rfl

/-- The codes at an index. -/
theorem refQ_at (X : FVec Idealize.ShloMosaic.Ideal S8x2048x1536 .bf16) (H : FVec Idealize.ShloMosaic.Ideal S24x24 .f32) (b : Fin 8) (s : Fin 2048) (n : Fin 1536) :
    refQ X H (ix3 b s n) = BitVec.ofInt 8 (codeE (XE X b.val s.val) (hE H) n.val) := by
  refine (quaF_at (refR X H) (refA X H) b s n).trans ?_
  by_cases hp : Plain (XE X b.val s.val) (hE H)
  · rw [refR_at X H b s hp, refA_at X H, scaleE_pos hp, codeE_pos hp, Ideal.div_coe (scaleR_pos _ _).ne', ← EReal.coe_mul, Ideal.liftRound_coe, seven_bits, nseven_bits, clamp_coe,
      fptosi32 _ (clampZ_range _), trunc8 _ (clampZ_range _)]
    unfold codeZ
    rw [show ∀ a v : ℝ, a * cR * (1 / v) = a * (cR / v) from fun a v => by ring]
  · rw [refA_at X H, scaleE_neg hp, codeE_neg hp, div_top, seven_bits, nseven_bits, clamp_zero, fptosi32 0 (by decide), trunc8 0 (by decide)]
end Cert.ReferenceIdeal.Value
end
-- ==== Proof.Val.RefY.lean ====
/- The reference's weights and product, as functions of the arguments. -/
module

public import proofs.«01_k».proof.Proof.Val.Ref

@[expose] public section
set_option maxRecDepth 16384
noncomputable section

namespace Cert.ReferenceIdeal.Value
open Idealize.ShloMosaic Idealize.ShloMosaic.TcCoe Idealize.ShloMosaic.Tactic
open Cert.ReferenceIdeal Cert.ReferenceIdeal.Gen Cert.Spec Finset
open Cert.KernelIdeal.Gen (XE WR hE hE_at nibZ bv8_back yR)

/-- A four-bit field read as a signed number. -/
def nibF (v : IVec S576x768 32) : IVec S576x768 32 :=
  select (cmpi .sge v (broadcastInDim S576x768 ![] bcast_S_S576x768 (constantI S_ 32 8#32))) (subi v (broadcastInDim S576x768 ![] bcast_S_S576x768 (constantI S_ 32 16#32))) v
/-- The low fields. -/
def loF (wp : IVec S576x768 8) : IVec S576x768 32 :=
  nibF (andi (extui 32 wp natLt_8_32) (broadcastInDim S576x768 ![] bcast_S_S576x768 (constantI S_ 32 15#32)))
/-- The high fields. -/
def hiF (wp : IVec S576x768 8) : IVec S576x768 32 :=
  nibF (andi (Host.shrsi (extui 32 wp natLt_8_32) (broadcastInDim S576x768 ![] bcast_S_S576x768 (constantI S_ 32 4#32))) (broadcastInDim S576x768 ![] bcast_S_S576x768 (constantI S_ 32 15#32)))
/-- The fields times their groups' powers of two. -/
def fldF (w : IVec S576x768 32) (e : IVec S576x6 32) : FVec Idealize.ShloMosaic.Ideal S576x768 .bf16 :=
  shapeCast _ (mulf (shapeCast _ (sitofp .bf16 w) shapeCasts_S576x768_S576x6x128) (broadcastInDim S576x6x128 ![0, 1, 2] bcast_S576x6x1_S576x6x128_0_1_2 (broadcastInDim S576x6x1 ![0, 1] bcast_S576x6_S576x6x1_0_1 (truncf .bf16 (Host.powf (broadcastInDim S576x6 ![] bcast_S_S576x6 (constant S_ .f32 0x40000000#32)) (Host.negf (sitofp .f32 e))) bitsLt_bf16_f32)))) shapeCasts_S576x6x128_S576x768
/-- The exponents of the first six groups. -/
def geLo (ge : IVec S576x12 8) : IVec S576x6 32 := extractStridedSlice S576x6 ![0, 0] (extui 32 ge natLt_8_32) slices_S576x12_S576x6_0_0
/-- The exponents of the last six groups. -/
def geHi (ge : IVec S576x12 8) : IVec S576x6 32 := extractStridedSlice S576x6 ![0, 6] (extui 32 ge natLt_8_32) slices_S576x12_S576x6_0_6
/-- The products of both halves, scaled. -/
def yF (Q : IVec S8x2048x1536 8) (wl wh : FVec Idealize.ShloMosaic.Ideal S576x768 .bf16) (A : FVec Idealize.ShloMosaic.Ideal S8x2048 .f32) (ws : FVec Idealize.ShloMosaic.Ideal S576 .f32) :
    FVec Idealize.ShloMosaic.Ideal S8x2048x576 .bf16 :=
  truncf .bf16 (mulf (mulf (addf
    (Host.dotGeneral dot_S8x2048x768_S576x768_S8x2048x576_2_1_01_0_n_n none (extractStridedSlice S8x2048x768 ![0, 0, 0] (sitofp .bf16 (extsi 32 Q natLt_8_32)) slices_S8x2048x1536_S8x2048x768_0_0_0) wl)
    (Host.dotGeneral dot_S8x2048x768_S576x768_S8x2048x576_2_1_01_0_n_n none (extractStridedSlice S8x2048x768 ![0, 0, 768] (sitofp .bf16 (extsi 32 Q natLt_8_32)) slices_S8x2048x1536_S8x2048x768_0_0_768) wh))
    (broadcastInDim S8x2048x576 ![0, 1, 2] bcast_S8x2048x1_S8x2048x576_0_1_2 (broadcastInDim S8x2048x1 ![0, 1] bcast_S8x2048_S8x2048x1_0_1 A)))
    (broadcastInDim S8x2048x576 ![0, 1, 2] bcast_S1x1x576_S8x2048x576_0_1_2 (broadcastInDim S1x1x576 ![2] bcast_S576_S1x1x576_2 ws))) bitsLt_bf16_f32
/-- The product of the arguments. -/
def refY (X : FVec Idealize.ShloMosaic.Ideal S8x2048x1536 .bf16) (H : FVec Idealize.ShloMosaic.Ideal S24x24 .f32) (wp : IVec S576x768 8) (ge : IVec S576x12 8) (ws : FVec Idealize.ShloMosaic.Ideal S576 .f32) :
    FVec Idealize.ShloMosaic.Ideal S8x2048x576 .bf16 :=
  yF (refQ X H) (fldF (loF wp) (geLo ge)) (fldF (hiF wp) (geHi ge)) (refA X H) ws

/-- The low nibble, signed, for each byte. -/
theorem lo_all : ∀ b : Fin 256, (Scalar.select (IntOp.cmpi CmpIPredicate.sge (IntOp.andi (BitVec.setWidth 32 (BitVec.ofNat 8 b.val)) 15#32) 8#32)
      (IntOp.subi (IntOp.andi (BitVec.setWidth 32 (BitVec.ofNat 8 b.val)) 15#32) 16#32) (IntOp.andi (BitVec.setWidth 32 (BitVec.ofNat 8 b.val)) 15#32)).toInt
    = nibZ ((BitVec.ofNat 8 b.val).toNat % 16) := by decide +kernel
/-- The high nibble, signed, for each byte. -/
theorem hi_all : ∀ b : Fin 256, (Scalar.select (IntOp.cmpi CmpIPredicate.sge (IntOp.andi (IntOp.shrsi ArithUnit.host (BitVec.setWidth 32 (BitVec.ofNat 8 b.val)) 4#32) 15#32) 8#32)
      (IntOp.subi (IntOp.andi (IntOp.shrsi ArithUnit.host (BitVec.setWidth 32 (BitVec.ofNat 8 b.val)) 4#32) 15#32) 16#32)
      (IntOp.andi (IntOp.shrsi ArithUnit.host (BitVec.setWidth 32 (BitVec.ofNat 8 b.val)) 4#32) 15#32)).toInt
    = nibZ ((BitVec.ofNat 8 b.val).toNat / 16) := by decide +kernel
/-- A byte widened without sign. -/
theorem ext_all : ∀ b : Fin 256, (BitVec.setWidth 32 (BitVec.ofNat 8 b.val)).toInt = ((BitVec.ofNat 8 b.val).toNat : ℤ) := by decide +kernel
/-- A byte widened with sign. -/
theorem sext_all : ∀ b : Fin 256, (BitVec.signExtend 32 (BitVec.ofNat 8 b.val)).toInt = (BitVec.ofNat 8 b.val).toInt := by decide +kernel

/-- The low field by the comparison is the signed low field. -/
theorem loF_at (wp : IVec S576x768 8) (o : Fin 576) (n : Fin 768) : (loF wp (ix2 o n)).toInt = nibZ ((wp (ix2 o n)).toNat % 16) := by
  have h := lo_all (wp (ix2 o n)).toFin
  rw [show BitVec.ofNat 8 (wp (ix2 o n)).toFin.val = wp (ix2 o n) from bv8_back _] at h
  rw [← h]
  refine congrArg BitVec.toInt ?_
  pointwise [loF, nibF]
/-- The high field by the comparison is the signed high field. -/
theorem hiF_at (wp : IVec S576x768 8) (o : Fin 576) (n : Fin 768) : (hiF wp (ix2 o n)).toInt = nibZ ((wp (ix2 o n)).toNat / 16) := by
  have h := hi_all (wp (ix2 o n)).toFin
  rw [show BitVec.ofNat 8 (wp (ix2 o n)).toFin.val = wp (ix2 o n) from bv8_back _] at h
  rw [← h]
  refine congrArg BitVec.toInt ?_
  pointwise [hiF, nibF]
/-- A byte widened is its number. -/
theorem ext_at (b : BitVec 8) : (BitVec.setWidth 32 b).toInt = (b.toNat : ℤ) := by
  have h := ext_all b.toFin
  rwa [show BitVec.ofNat 8 b.toFin.val = b from bv8_back _] at h
/-- A signed byte widened is its number. -/
theorem sext_at (b : BitVec 8) : (BitVec.signExtend 32 b).toInt = b.toInt := by
  have h := sext_all b.toFin
  rwa [show BitVec.ofNat 8 b.toFin.val = b from bv8_back _] at h
/-- An exponent of the low half. -/
theorem geLo_at (ge : IVec S576x12 8) (o : Fin 576) (k : Fin 6) : geLo ge (ix2 o k) = (ge (ix2 o ⟨k.val, by omega⟩)).setWidth 32 := by
  pointwise [geLo]
/-- An exponent of the high half. -/
theorem geHi_at (ge : IVec S576x12 8) (o : Fin 576) (k : Fin 6) : geHi ge (ix2 o k) = (ge (ix2 o ⟨6 + k.val, by omega⟩)).setWidth 32 := by
  pointwise [geHi]

/-- The f32 pattern of two. -/
theorem two_bits : Ideal.ofBits .f32 0x40000000#32 = ((2 : ℝ) : EReal) := by
  simp [Ideal.ofBits, Ideal.ieee, -EReal.coe_mul]; norm_num
/-- A power of two with a whole exponent. -/
theorem pow_two (k : ℤ) : Ideal.pow ((2 : ℝ) : EReal) (-(((k : ℤ) : ℝ) : EReal)) = (((2 : ℝ) ^ (-k) : ℝ) : EReal) := by
  rw [← EReal.coe_neg, Ideal.pow_coe_coe, ← Int.cast_neg]
  exact congrArg (fun z : ℝ => (z : EReal)) (Real.rpow_intCast 2 (-k))

/-- A field times its group's power at an index. -/
theorem fldF_at (w : IVec S576x768 32) (e : IVec S576x6 32) (o : Fin 576) (n : Fin 768) : fldF w e (ix2 o n)
    = ((((w (ix2 o n)).toInt : ℝ) * (2 : ℝ) ^ (-((e (ix2 o ⟨n.val / 128, by omega⟩)).toInt)) : ℝ) : EReal) := by
  pointwise [fldF]
  rw [two_bits, EReal.coe_mul, ← pow_two]
  rfl

/-- The low weights. -/
theorem wlo_at (wp : IVec S576x768 8) (ge : IVec S576x12 8) (o : Fin 576) (n : Fin 768) : fldF (loF wp) (geLo ge) (ix2 o n) = ((WR wp ge o n.val : ℝ) : EReal) := by
  rw [fldF_at, loF_at, geLo_at, ext_at]
  unfold WR
  rw [if_pos n.isLt]
  have hn := n.isLt
  have e1 : (⟨n.val % 768, Nat.mod_lt _ (by decide)⟩ : Fin 768) = n := Fin.ext (Nat.mod_eq_of_lt hn)
  have e2 : (⟨n.val / 128 % 12, Nat.mod_lt _ (by decide)⟩ : Fin 12) = ⟨n.val / 128, by omega⟩ := Fin.ext (by show n.val / 128 % 12 = n.val / 128; omega)
  rw [e1, e2]
/-- The high weights. -/
theorem whi_at (wp : IVec S576x768 8) (ge : IVec S576x12 8) (o : Fin 576) (n : Fin 768) : fldF (hiF wp) (geHi ge) (ix2 o n) = ((WR wp ge o (768 + n.val) : ℝ) : EReal) := by
  rw [fldF_at, hiF_at, geHi_at, ext_at]
  unfold WR
  rw [if_neg (by omega)]
  have hn := n.isLt
  have e1 : (⟨(768 + n.val) % 768, Nat.mod_lt _ (by decide)⟩ : Fin 768) = n := Fin.ext (by show (768 + n.val) % 768 = n.val; omega)
  have e2 : (⟨(768 + n.val) / 128 % 12, Nat.mod_lt _ (by decide)⟩ : Fin 12) = ⟨6 + n.val / 128, by omega⟩ := Fin.ext (by show (768 + n.val) / 128 % 12 = 6 + n.val / 128; omega)
  rw [e1, e2]

/-- The scaled product at an index. -/
theorem yF_at (Q : IVec S8x2048x1536 8) (wl wh : FVec Idealize.ShloMosaic.Ideal S576x768 .bf16) (A : FVec Idealize.ShloMosaic.Ideal S8x2048 .f32) (ws : FVec Idealize.ShloMosaic.Ideal S576 .f32)
    (b : Fin 8) (s : Fin 2048) (o : Fin 576) : yF Q wl wh A ws (ix3 b s o)
    = ((∑ n : Fin 768, (((Q (ix3 b s ⟨n.val, by omega⟩)).toInt : ℝ) : EReal) * wl (ix2 o n)) + ∑ n : Fin 768, (((Q (ix3 b s ⟨768 + n.val, by omega⟩)).toInt : ℝ) : EReal) * wh (ix2 o n)) * A (ix2 b s) * ws (ix1 o) := by
  have e : ∀ v : BitVec 8, ((v.toInt : ℝ) : EReal) = FloatOps.sitofp (F := Idealize.ShloMosaic.Ideal) FTy.bf16 (BitVec.signExtend 32 v) := by
    intro v
    rw [← sext_at]
    rfl
  simp only [e]
  pointwise [yF]

/-- The first result at an index. -/
theorem refY_at (X : FVec Idealize.ShloMosaic.Ideal S8x2048x1536 .bf16) (H : FVec Idealize.ShloMosaic.Ideal S24x24 .f32) (wp : IVec S576x768 8) (ge : IVec S576x12 8) (ws : FVec Idealize.ShloMosaic.Ideal S576 .f32)
    (b : Fin 8) (s : Fin 2048) (o : Fin 576) : refY X H wp ge ws (ix3 b s o) = yR (WR wp ge o) (ws (ix1 o)) (XE X b.val s.val) (hE H) := by
  refine (yF_at (refQ X H) _ _ (refA X H) ws b s o).trans ?_
  rw [refA_at X H]
  unfold yR
  refine congrArg (fun z : EReal => z * scaleE (XE X b.val s.val) (hE H) * ws (ix1 o)) ?_
  have el : ∀ n : Fin 768, (((refQ X H (ix3 b s ⟨n.val, by omega⟩)).toInt : ℝ) : EReal) * fldF (loF wp) (geLo ge) (ix2 o n)
      = ((WR wp ge o n.val * (codeE (XE X b.val s.val) (hE H) n.val : ℝ) : ℝ) : EReal) := by
    intro n
    rw [refQ_at X H, wlo_at, ofInt8_toInt _ (codeE_range _ _ _), ← EReal.coe_mul, mul_comm]
  have eh : ∀ n : Fin 768, (((refQ X H (ix3 b s ⟨768 + n.val, by omega⟩)).toInt : ℝ) : EReal) * fldF (hiF wp) (geHi ge) (ix2 o n)
      = ((WR wp ge o (768 + n.val) * (codeE (XE X b.val s.val) (hE H) (768 + n.val) : ℝ) : ℝ) : EReal) := by
    intro n
    rw [refQ_at X H, whi_at, ofInt8_toInt _ (codeE_range _ _ _), ← EReal.coe_mul, mul_comm]
  rw [Finset.sum_congr rfl fun n _ => el n, Finset.sum_congr rfl fun n _ => eh n,
    coe_sum (n := 768) fun n => WR wp ge o n * (codeE (XE X b.val s.val) (hE H) n : ℝ),
    coe_sum (n := 768) fun n => WR wp ge o (768 + n) * (codeE (XE X b.val s.val) (hE H) (768 + n) : ℝ),
    ← EReal.coe_add, show (1536 : ℕ) = 768 + 768 from rfl, Finset.sum_range_add]

/-- The printed first result is the product of the arguments. -/
theorem res_v88 (m : (ℓ : Loc nD τ sig) → Buf (Elt Idealize.ShloMosaic.Ideal) ℓ) (c : Dev nD) :
    res_main_v88 m c = refY (m ((c : Thread nD τ).loc main_arg0)) (m ((c : Thread nD τ).loc main_arg1)) (m ((c : Thread nD τ).loc main_arg2)) (m ((c : Thread nD τ).loc main_arg3)) (m ((c : Thread nD τ).loc main_arg4)) := by
  unfold res_main_v88
  unfold refY yF refQ refA quaF sclF fldF loF hiF nibF geLo geHi refM refR refU refT refS
  rfl
end Cert.ReferenceIdeal.Value
end
-- ==== Proof.Val.Algebraic.lean ====
/- The kernel's three results are the reference's, for arguments that meet the precondition. -/
module

public import proofs.«01_k».proof.Defs
public import proofs.«01_k».proof.Proof.Val.RefY
public import proofs.«01_k».proof.Proof.Frames
public import proofs.«01_k».proof.Proof.Forget.Frame
public import proofs.«01_k».proof.Proof.Gen.Pre_tame

@[expose] public section
set_option maxRecDepth 16384
noncomputable section

namespace Cert.Proof
open Idealize.ShloMosaic Idealize.ShloMosaic.TcCoe Idealize.ShloMosaic.Tactic Idealize.SL.Sem

open Cert.Pre_tame in
/-- The precondition's mask: no exponent passes 126. -/
theorem tame_g (x0 : FVec Idealize.ShloMosaic.Ideal S8x2048x1536 .bf16) (x1 : FVec Idealize.ShloMosaic.Ideal S24x24 .f32) (x2 : IVec S576x768 8) (x3 : IVec S576x12 8) (x4 : FVec Idealize.ShloMosaic.Ideal S576 .f32)
    [Cert.Pre_tame.Facts] (h : (Cert.Pre_tame.fn (F := Idealize.ShloMosaic.Ideal) x0 x1 x2 x3 x4) = fun _ => 1#1) (o : Fin 576) (k : Fin 12) :
    (x3 (ix2 o k)).toNat ≤ 126 := by
  have e := congrFun h (ix2 o k)
  revert e
  unfold Cert.Pre_tame.fn
  dsimp only
  pointwise
  intro e
  have e' : BitVec.ofBool (BitVec.ule (x3 (ix2 o k)) 126#8) = 1#1 := e
  by_contra hc
  rw [show BitVec.ule (x3 (ix2 o k)) 126#8 = false from decide_eq_false (by rw [show (126#8 : BitVec 8).toNat = 126 from rfl]; exact hc)] at e'
  exact absurd e' (by decide)

open Cert.KernelIdeal.Gen in
/-- The precondition gives what the kernel's run asks. -/
theorem good_of_tame (m : (ℓ : Loc Cert.KernelIdeal.nD Cert.KernelIdeal.τ Cert.KernelIdeal.sig) → Buf (Elt Ideal) ℓ)
    (h : Cert.Pre_KernelIdeal_tame (hPre_tame := Cert.Pre_tame.Gen.facts) m) : Good m where
  hG c k o := by
    rw [w3_at]
    exact @tame_g _ _ _ _ _ Cert.Pre_tame.Gen.facts (h c) _ _

open Cert.KernelIdeal.Gen Cert.ReferenceIdeal.Value

/-- The first results agree. -/
theorem tieY (X : Vec Ideal Cert.KernelIdeal.S8x2048x1536 .bf16) (H : Vec Ideal Cert.KernelIdeal.S24x24 .f32) (wp : Vec Ideal Cert.KernelIdeal.S576x768 .i8) (ge : Vec Ideal Cert.KernelIdeal.S576x12 .i8) (ws : Vec Ideal Cert.KernelIdeal.S576 .f32) :
    refY X H wp ge ws = (transpose Cert.KernelIdeal.S8x2048x576 [0, 2, 1] (res5 X H wp ge ws) Cert.KernelIdeal.Gen.transposes_S8x576x2048_S8x2048x576_0_2_1 : Vec Ideal Cert.KernelIdeal.S8x2048x576 .bf16) := by
  funext j
  obtain ⟨b, s, o, rfl⟩ : ∃ (b : Fin 8) (s : Fin 2048) (o : Fin 576), j = ix3 b s o := ⟨j 0, j 1, j 2, by funext i; fin_cases i <;> rfl⟩
  refine (refY_at X H wp ge ws b s o).trans ?_
  have e : (transpose Cert.KernelIdeal.S8x2048x576 [0, 2, 1] (res5 X H wp ge ws) Cert.KernelIdeal.Gen.transposes_S8x576x2048_S8x2048x576_0_2_1 : Vec Ideal Cert.KernelIdeal.S8x2048x576 .bf16) (ix3 b s o)
      = res5 X H wp ge ws (ix3 b o s) := by
    generalize res5 X H wp ge ws = R
    pointwise
  rw [e]
  rfl
/-- The codes agree. -/
theorem tieQ (X : Vec Ideal Cert.KernelIdeal.S8x2048x1536 .bf16) (H : Vec Ideal Cert.KernelIdeal.S24x24 .f32) : refQ X H = res6 X H := by
  funext j
  obtain ⟨b, s, n, rfl⟩ : ∃ (b : Fin 8) (s : Fin 2048) (n : Fin 1536), j = ix3 b s n := ⟨j 0, j 1, j 2, by funext i; fin_cases i <;> rfl⟩
  exact refQ_at X H b s n
/-- The scales agree. -/
theorem tieA (X : Vec Ideal Cert.KernelIdeal.S8x2048x1536 .bf16) (H : Vec Ideal Cert.KernelIdeal.S24x24 .f32) : refA X H = res7 X H := by
  funext j
  obtain ⟨b, s, rfl⟩ : ∃ (b : Fin 8) (s : Fin 2048), j = ix2 b s := ⟨j 0, j 1, by funext i; fin_cases i <;> rfl⟩
  exact refA_at X H b s

/-- The reference's run, its results in the names of the modules before. -/
theorem runR (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v88) = refY (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v32) = refQ (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v25) = refA (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  θ_run_mono (Cert.ReferenceIdeal.Value.run (F := Ideal) m ρ) fun r h c =>
    ⟨(h c).1.trans (res_v88 m c), (h c).2.1, (h c).2.2.1, (h c).2.2.2⟩

/-- The kernel and the reference end with the same three results. -/
theorem algebraic : Cert.algebraic_KernelIdeal_ReferenceIdeal_pre_tame (hKernelIdeal := Cert.KernelIdeal.Gen.facts) (hReferenceIdeal := Cert.ReferenceIdeal.Gen.facts) (hPre_tame := Cert.Pre_tame.Gen.facts) := by
  intro m g m' g' hpre hagree
  have hm := good_of_tame m hpre
  refine ⟨fun c => (transpose Cert.KernelIdeal.S8x2048x576 [0, 2, 1] (res5 (g0 m c) (g1 m c) (g2 m c) (g3 m c) (g4 m c)) Cert.KernelIdeal.Gen.transposes_S8x576x2048_S8x2048x576_0_2_1 : Vec Ideal Cert.KernelIdeal.S8x2048x576 .bf16),
    fun c => res6 (g0 m c) (g1 m c), fun c => res7 (g0 m c) (g1 m c), ?_, ?_⟩
  · refine θ_run_mono (θ_run_and (runK m g hm) (Cert.KernelIdeal.Gen.frame m g)) fun r h c => ?_
    exact ⟨(h.1 c).1, (h.1 c).2.1, (h.1 c).2.2, h.2.1 c⟩
  · refine θ_run_mono (runR m' g') fun r h c => ?_
    obtain ⟨a0, a1, a2, a3, a4⟩ := hagree c
    obtain ⟨h1, h2, h3, h4⟩ := h c
    refine ⟨h1.trans ?_, h2.trans ?_, h3.trans ?_, h4⟩
    · rw [a0, a1, a2, a3, a4]
      exact tieY (g0 m c) (g1 m c) (g2 m c) (g3 m c) (g4 m c)
    · rw [a0, a1]
      exact tieQ (g0 m c) (g1 m c)
    · rw [a0, a1]
      exact tieA (g0 m c) (g1 m c)
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Forget.Frame
public import proofs.«01_k».proof.Proof.ForgetK.Frame
public import proofs.«01_k».proof.Proof.Frames
public import proofs.«01_k».proof.Proof.Val.Algebraic
public import proofs.«01_k».proof.Proof.Gen.Pre_tame
public import Idealize.ShloMosaic.Adequacy
public import Idealize.ShloMosaic.Init

@[expose] public section

noncomputable section

namespace Cert.Proof

open Idealize.ShloMosaic Idealize.SL.Sem Cert.Kernel

/-- The five claims: the frames, the idealized kernel being the kernel, and the three results. -/
theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
